-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.Statement Cert.KernelIdeal.S128x256 Cert.KernelIdeal.S64x256
  ∧ IdealRules.named_const.Statement Cert.KernelIdeal.κ "inv_d" .f32 0x39924925#32 ((1 / 3584 : ℝ) : EReal)
  ∧ IdealRules.bf16_pair.PackStatement Cert.KernelIdeal.S8x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x512x3584 : Shape := ⟨3, ![24, 512, 3584]⟩
abbrev S3584 : Shape := ⟨1, ![3584]⟩
abbrev S24x512 : Shape := ⟨2, ![24, 512]⟩
abbrev S2688x112x16 : Shape := ⟨3, ![2688, 112, 16]⟩
abbrev S2688x112 : Shape := ⟨2, ![2688, 112]⟩
abbrev S384x112x16 : Shape := ⟨3, ![384, 112, 16]⟩
abbrev S384x112 : Shape := ⟨2, ![384, 112]⟩
abbrev S48 : Shape := ⟨1, ![48]⟩
abbrev S112x16x2688 : Shape := ⟨3, ![112, 16, 2688]⟩
abbrev S1792x2688 : Shape := ⟨2, ![1792, 2688]⟩
abbrev S112x2688 : Shape := ⟨2, ![112, 2688]⟩
abbrev S112x16x384 : Shape := ⟨3, ![112, 16, 384]⟩
abbrev S1792x384 : Shape := ⟨2, ![1792, 384]⟩
abbrev S112x384 : Shape := ⟨2, ![112, 384]⟩
abbrev S1x3584 : Shape := ⟨2, ![1, 3584]⟩
abbrev S48x1 : Shape := ⟨2, ![48, 1]⟩
abbrev S24x1x512 : Shape := ⟨3, ![24, 1, 512]⟩
abbrev S24x2688x512 : Shape := ⟨3, ![24, 2688, 512]⟩
abbrev S24x384x512 : Shape := ⟨3, ![24, 384, 512]⟩
abbrev S1x512x3584 : Shape := ⟨3, ![1, 512, 3584]⟩
abbrev S1x1x512 : Shape := ⟨3, ![1, 1, 512]⟩
abbrev S1x2688x512 : Shape := ⟨3, ![1, 2688, 512]⟩
abbrev S1x384x512 : Shape := ⟨3, ![1, 384, 512]⟩
abbrev S3456x3584 : Shape := ⟨2, ![3456, 3584]⟩
abbrev S2x512x3584 : Shape := ⟨3, ![2, 512, 3584]⟩
abbrev S48x512 : Shape := ⟨2, ![48, 512]⟩
abbrev S128x128 : Shape := ⟨2, ![128, 128]⟩
abbrev S8x128 : Shape := ⟨2, ![8, 128]⟩
abbrev S32x128 : Shape := ⟨2, ![32, 128]⟩
abbrev S8x1x128 : Shape := ⟨3, ![8, 1, 128]⟩
abbrev S8x16x128 : Shape := ⟨3, ![8, 16, 128]⟩
abbrev S8x32x128 : Shape := ⟨3, ![8, 32, 128]⟩
abbrev S256x128 : Shape := ⟨2, ![256, 128]⟩
abbrev S128x256 : Shape := ⟨2, ![128, 256]⟩
abbrev S64x256 : Shape := ⟨2, ![64, 256]⟩
abbrev S8x8x256 : Shape := ⟨3, ![8, 8, 256]⟩
abbrev S8x16x256 : Shape := ⟨3, ![8, 16, 256]⟩
abbrev S1x16x3584 : Shape := ⟨3, ![1, 16, 3584]⟩
abbrev S16x3584 : Shape := ⟨2, ![16, 3584]⟩
abbrev S16 : Shape := ⟨1, ![16]⟩
abbrev S16x1 : Shape := ⟨2, ![16, 1]⟩
abbrev S1x512 : Shape := ⟨2, ![1, 512]⟩
abbrev S384x3584 : Shape := ⟨2, ![384, 3584]⟩
abbrev S512x3584 : Shape := ⟨2, ![512, 3584]⟩
abbrev S384x512 : Shape := ⟨2, ![384, 512]⟩
abbrev S8x512 : Shape := ⟨2, ![8, 512]⟩
abbrev S16x512 : Shape := ⟨2, ![16, 512]⟩
abbrev S24x28x96x512 : Shape := ⟨4, ![24, 28, 96, 512]⟩
abbrev S24x512x28x96 : Shape := ⟨4, ![24, 512, 28, 96]⟩
abbrev S24x4x96x512 : Shape := ⟨4, ![24, 4, 96, 512]⟩
abbrev S24x512x4x96 : Shape := ⟨4, ![24, 512, 4, 96]⟩

abbrev nBuf : Space → Nat
  | .hbm => 31
  | .vmem => 22
  | .smem => 0
  | _ => 0

abbrev bufTy : (tb : Table) → Fin (tcTables nBuf tb) → BufTy
  | .hbm, ⟨0, _⟩ => ⟨S24x512x3584, .bf16⟩
  | .hbm, ⟨1, _⟩ => ⟨S3584, .f32⟩
  | .hbm, ⟨2, _⟩ => ⟨S24x512, .i32⟩
  | .hbm, ⟨3, _⟩ => ⟨S2688x112x16, .i8⟩
  | .hbm, ⟨4, _⟩ => ⟨S2688x112, .bf16⟩
  | .hbm, ⟨5, _⟩ => ⟨S384x112x16, .i8⟩
  | .hbm, ⟨6, _⟩ => ⟨S384x112, .bf16⟩
  | .hbm, ⟨7, _⟩ => ⟨S384x112x16, .i8⟩
  | .hbm, ⟨8, _⟩ => ⟨S384x112, .bf16⟩
  | .hbm, ⟨9, _⟩ => ⟨S48, .f32⟩
  | .hbm, ⟨10, _⟩ => ⟨S112x16x2688, .i8⟩
  | .hbm, ⟨11, _⟩ => ⟨S1792x2688, .i8⟩
  | .hbm, ⟨12, _⟩ => ⟨S112x2688, .bf16⟩
  | .hbm, ⟨13, _⟩ => ⟨S112x16x384, .i8⟩
  | .hbm, ⟨14, _⟩ => ⟨S1792x384, .i8⟩
  | .hbm, ⟨15, _⟩ => ⟨S112x384, .bf16⟩
  | .hbm, ⟨16, _⟩ => ⟨S112x16x384, .i8⟩
  | .hbm, ⟨17, _⟩ => ⟨S1792x384, .i8⟩
  | .hbm, ⟨18, _⟩ => ⟨S112x384, .bf16⟩
  | .hbm, ⟨19, _⟩ => ⟨S1x3584, .f32⟩
  | .hbm, ⟨20, _⟩ => ⟨S48x1, .f32⟩
  | .hbm, ⟨21, _⟩ => ⟨S24x1x512, .i32⟩
  | .hbm, ⟨22, _⟩ => ⟨S24x2688x512, .bf16⟩
  | .hbm, ⟨23, _⟩ => ⟨S24x384x512, .bf16⟩
  | .hbm, ⟨24, _⟩ => ⟨S24x384x512, .bf16⟩
  | .hbm, ⟨25, _⟩ => ⟨S24x28x96x512, .bf16⟩
  | .hbm, ⟨26, _⟩ => ⟨S24x512x28x96, .bf16⟩
  | .hbm, ⟨27, _⟩ => ⟨S24x4x96x512, .bf16⟩
  | .hbm, ⟨28, _⟩ => ⟨S24x512x4x96, .bf16⟩
  | .hbm, ⟨29, _⟩ => ⟨S24x4x96x512, .bf16⟩
  | .hbm, ⟨30, _⟩ => ⟨S24x512x4x96, .bf16⟩
  | .local _ .vmem, ⟨0, _⟩ => ⟨S1x512x3584, .bf16⟩
  | .local _ .vmem, ⟨1, _⟩ => ⟨S1x512x3584, .bf16⟩
  | .local _ .vmem, ⟨2, _⟩ => ⟨S1x3584, .f32⟩
  | .local _ .vmem, ⟨3, _⟩ => ⟨S1x1x512, .i32⟩
  | .local _ .vmem, ⟨4, _⟩ => ⟨S1x1x512, .i32⟩
  | .local _ .vmem, ⟨5, _⟩ => ⟨S48x1, .f32⟩
  | .local _ .vmem, ⟨6, _⟩ => ⟨S1792x2688, .i8⟩
  | .local _ .vmem, ⟨7, _⟩ => ⟨S112x2688, .bf16⟩
  | .local _ .vmem, ⟨8, _⟩ => ⟨S1792x384, .i8⟩
  | .local _ .vmem, ⟨9, _⟩ => ⟨S112x384, .bf16⟩
  | .local _ .vmem, ⟨10, _⟩ => ⟨S1792x384, .i8⟩
  | .local _ .vmem, ⟨11, _⟩ => ⟨S112x384, .bf16⟩
  | .local _ .vmem, ⟨12, _⟩ => ⟨S1x2688x512, .bf16⟩
  | .local _ .vmem, ⟨13, _⟩ => ⟨S1x2688x512, .bf16⟩
  | .local _ .vmem, ⟨14, _⟩ => ⟨S1x384x512, .bf16⟩
  | .local _ .vmem, ⟨15, _⟩ => ⟨S1x384x512, .bf16⟩
  | .local _ .vmem, ⟨16, _⟩ => ⟨S1x384x512, .bf16⟩
  | .local _ .vmem, ⟨17, _⟩ => ⟨S1x384x512, .bf16⟩
  | .local _ .vmem, ⟨18, _⟩ => ⟨S3456x3584, .bf16⟩
  | .local _ .vmem, ⟨19, _⟩ => ⟨S2x512x3584, .bf16⟩
  | .local _ .vmem, ⟨20, _⟩ => ⟨S48x512, .f32⟩
  | .local _ .vmem, ⟨21, _⟩ => ⟨S48x512, .f32⟩
  | _, _ => ⟨S24x512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [BitOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c21_i32 : BitVec 32 := 21#32
  let v28 : BitVec 32 := Scalar.addi c0_i32_17 c21_i32
  let c1_i32_18 : BitVec 32 := 1#32
  ⟨c0_i32_17, v28, c1_i32_18⟩
def k0_mult1 (k0_t1 : Fin k0_t1_loop.trips) : BitVec 32 :=
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  v31
def k0_off1 (k0_t1 : Fin k0_t1_loop.trips) : Fin 2 → Nat :=
  let c0 : Index := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v33 : Index := Scalar.indexCast v32
  ![0, v33.toNat]
def k0_off2 (k0_t1 : Fin k0_t1_loop.trips) : Fin 2 → Nat :=
  let c0_27 : Index := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v36 : Index := Scalar.indexCast v32
  ![0, v36.toNat]
def k0_off3 (k0_t1 : Fin k0_t1_loop.trips) : Fin 2 → Nat :=
  let c0_i32_30 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v76 : BitVec 32 := Scalar.addi c0_i32_30 v32
  let v77 : Index := Scalar.indexCast v76
  let c0_31 : Index := 0#32
  ![v77.toNat, 0]
def k0_off4 (k0_t1 : Fin k0_t1_loop.trips) : Fin 2 → Nat :=
  let c128 : Index := 128#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v81 : Index := Scalar.indexCast v32
  ![128, v81.toNat]
def k0_off5 (k0_t1 : Fin k0_t1_loop.trips) : Fin 2 → Nat :=
  let c8 : Index := 8#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v84 : Index := Scalar.indexCast v32
  ![8, v84.toNat]
def k0_off6 (k0_t1 : Fin k0_t1_loop.trips) : Fin 2 → Nat :=
  let c0_i32_39 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v124 : BitVec 32 := Scalar.addi c0_i32_39 v32
  let v125 : Index := Scalar.indexCast v124
  let c256 : Index := 256#32
  ![v125.toNat, 256]
def k0_off7 (k0_t1 : Fin k0_t1_loop.trips) : Fin 2 → Nat :=
  let c256_40 : Index := 256#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v129 : Index := Scalar.indexCast v32
  ![256, v129.toNat]
def k0_off8 (k0_t1 : Fin k0_t1_loop.trips) : Fin 2 → Nat :=
  let c16 : Index := 16#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v132 : Index := Scalar.indexCast v32
  ![16, v132.toNat]
def k0_off9 (k0_t1 : Fin k0_t1_loop.trips) : Fin 2 → Nat :=
  let c0_i32_48 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v172 : BitVec 32 := Scalar.addi c0_i32_48 v32
  let v173 : Index := Scalar.indexCast v172
  let c512 : Index := 512#32
  ![v173.toNat, 512]
def k0_off10 (k0_t1 : Fin k0_t1_loop.trips) : Fin 2 → Nat :=
  let c384 : Index := 384#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v177 : Index := Scalar.indexCast v32
  ![384, v177.toNat]
def k0_off11 (k0_t1 : Fin k0_t1_loop.trips) : Fin 2 → Nat :=
  let c24 : Index := 24#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v180 : Index := Scalar.indexCast v32
  ![24, v180.toNat]
def k0_off12 (k0_t1 : Fin k0_t1_loop.trips) : Fin 2 → Nat :=
  let c0_i32_56 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v220 : BitVec 32 := Scalar.addi c0_i32_56 v32
  let v221 : Index := Scalar.indexCast v220
  let c768 : Index := 768#32
  ![v221.toNat, 768]
def k0_off13 (k0_t1 : Fin k0_t1_loop.trips) : Fin 2 → Nat :=
  let c512_57 : Index := 512#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v225 : Index := Scalar.indexCast v32
  ![512, v225.toNat]
def k0_off14 (k0_t1 : Fin k0_t1_loop.trips) : Fin 2 → Nat :=
  let c32 : Index := 32#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v228 : Index := Scalar.indexCast v32
  ![32, v228.toNat]
def k0_off15 (k0_t1 : Fin k0_t1_loop.trips) : Fin 2 → Nat :=
  let c0_i32_65 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v268 : BitVec 32 := Scalar.addi c0_i32_65 v32
  let v269 : Index := Scalar.indexCast v268
  let c1024 : Index := 1024#32
  ![v269.toNat, 1024]
def k0_off16 (k0_t1 : Fin k0_t1_loop.trips) : Fin 2 → Nat :=
  let c640 : Index := 640#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v273 : Index := Scalar.indexCast v32
  ![640, v273.toNat]
def k0_off17 (k0_t1 : Fin k0_t1_loop.trips) : Fin 2 → Nat :=
  let c40 : Index := 40#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v276 : Index := Scalar.indexCast v32
  ![40, v276.toNat]
def k0_off18 (k0_t1 : Fin k0_t1_loop.trips) : Fin 2 → Nat :=
  let c0_i32_73 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v316 : BitVec 32 := Scalar.addi c0_i32_73 v32
  let v317 : Index := Scalar.indexCast v316
  let c1280 : Index := 1280#32
  ![v317.toNat, 1280]
def k0_off19 (k0_t1 : Fin k0_t1_loop.trips) : Fin 2 → Nat :=
  let c768_74 : Index := 768#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v321 : Index := Scalar.indexCast v32
  ![768, v321.toNat]
def k0_off20 (k0_t1 : Fin k0_t1_loop.trips) : Fin 2 → Nat :=
  let c48 : Index := 48#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v324 : Index := Scalar.indexCast v32
  ![48, v324.toNat]
def k0_off21 (k0_t1 : Fin k0_t1_loop.trips) : Fin 2 → Nat :=
  let c0_i32_82 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v364 : BitVec 32 := Scalar.addi c0_i32_82 v32
  let v365 : Index := Scalar.indexCast v364
  let c1536 : Index := 1536#32
  ![v365.toNat, 1536]
def k0_off22 (k0_t1 : Fin k0_t1_loop.trips) : Fin 2 → Nat :=
  let c896 : Index := 896#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v369 : Index := Scalar.indexCast v32
  ![896, v369.toNat]
def k0_off23 (k0_t1 : Fin k0_t1_loop.trips) : Fin 2 → Nat :=
  let c56 : Index := 56#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v372 : Index := Scalar.indexCast v32
  ![56, v372.toNat]
def k0_off24 (k0_t1 : Fin k0_t1_loop.trips) : Fin 2 → Nat :=
  let c0_i32_90 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v412 : BitVec 32 := Scalar.addi c0_i32_90 v32
  let v413 : Index := Scalar.indexCast v412
  let c1792 : Index := 1792#32
  ![v413.toNat, 1792]
def k0_off25 (k0_t1 : Fin k0_t1_loop.trips) : Fin 2 → Nat :=
  let c1024_91 : Index := 1024#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v417 : Index := Scalar.indexCast v32
  ![1024, v417.toNat]
def k0_off26 (k0_t1 : Fin k0_t1_loop.trips) : Fin 2 → Nat :=
  let c64 : Index := 64#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v420 : Index := Scalar.indexCast v32
  ![64, v420.toNat]
def k0_off27 (k0_t1 : Fin k0_t1_loop.trips) : Fin 2 → Nat :=
  let c0_i32_99 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v460 : BitVec 32 := Scalar.addi c0_i32_99 v32
  let v461 : Index := Scalar.indexCast v460
  let c2048 : Index := 2048#32
  ![v461.toNat, 2048]
def k0_off28 (k0_t1 : Fin k0_t1_loop.trips) : Fin 2 → Nat :=
  let c1152 : Index := 1152#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v465 : Index := Scalar.indexCast v32
  ![1152, v465.toNat]
def k0_off29 (k0_t1 : Fin k0_t1_loop.trips) : Fin 2 → Nat :=
  let c72 : Index := 72#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v468 : Index := Scalar.indexCast v32
  ![72, v468.toNat]
def k0_off30 (k0_t1 : Fin k0_t1_loop.trips) : Fin 2 → Nat :=
  let c0_i32_107 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v508 : BitVec 32 := Scalar.addi c0_i32_107 v32
  let v509 : Index := Scalar.indexCast v508
  let c2304 : Index := 2304#32
  ![v509.toNat, 2304]
def k0_off31 (k0_t1 : Fin k0_t1_loop.trips) : Fin 2 → Nat :=
  let c1280_108 : Index := 1280#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v513 : Index := Scalar.indexCast v32
  ![1280, v513.toNat]
def k0_off32 (k0_t1 : Fin k0_t1_loop.trips) : Fin 2 → Nat :=
  let c80 : Index := 80#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v516 : Index := Scalar.indexCast v32
  ![80, v516.toNat]
def k0_off33 (k0_t1 : Fin k0_t1_loop.trips) : Fin 2 → Nat :=
  let c0_i32_116 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v556 : BitVec 32 := Scalar.addi c0_i32_116 v32
  let v557 : Index := Scalar.indexCast v556
  let c2560 : Index := 2560#32
  ![v557.toNat, 2560]
def k0_off34 (k0_t1 : Fin k0_t1_loop.trips) : Fin 2 → Nat :=
  let c1408 : Index := 1408#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v561 : Index := Scalar.indexCast v32
  ![1408, v561.toNat]
def k0_off35 (k0_t1 : Fin k0_t1_loop.trips) : Fin 2 → Nat :=
  let c88 : Index := 88#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v564 : Index := Scalar.indexCast v32
  ![88, v564.toNat]
def k0_off36 (k0_t1 : Fin k0_t1_loop.trips) : Fin 2 → Nat :=
  let c0_i32_124 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v604 : BitVec 32 := Scalar.addi c0_i32_124 v32
  let v605 : Index := Scalar.indexCast v604
  let c2816 : Index := 2816#32
  ![v605.toNat, 2816]
def k0_off37 (k0_t1 : Fin k0_t1_loop.trips) : Fin 2 → Nat :=
  let c1536_125 : Index := 1536#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v609 : Index := Scalar.indexCast v32
  ![1536, v609.toNat]
def k0_off38 (k0_t1 : Fin k0_t1_loop.trips) : Fin 2 → Nat :=
  let c96 : Index := 96#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v612 : Index := Scalar.indexCast v32
  ![96, v612.toNat]
def k0_off39 (k0_t1 : Fin k0_t1_loop.trips) : Fin 2 → Nat :=
  let c0_i32_133 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v652 : BitVec 32 := Scalar.addi c0_i32_133 v32
  let v653 : Index := Scalar.indexCast v652
  let c3072 : Index := 3072#32
  ![v653.toNat, 3072]
def k0_off40 (k0_t1 : Fin k0_t1_loop.trips) : Fin 2 → Nat :=
  let c1664 : Index := 1664#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v657 : Index := Scalar.indexCast v32
  ![1664, v657.toNat]
def k0_off41 (k0_t1 : Fin k0_t1_loop.trips) : Fin 2 → Nat :=
  let c104 : Index := 104#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v660 : Index := Scalar.indexCast v32
  ![104, v660.toNat]
def k0_off42 (k0_t1 : Fin k0_t1_loop.trips) : Fin 2 → Nat :=
  let c0_i32_141 : BitVec 32 := 0#32
  let c0_i32_17 : BitVec 32 := 0#32
  let c1_i32_18 : BitVec 32 := 1#32
  let arg18 : BitVec 32 := Scf.iv c0_i32_17 c1_i32_18 k0_t1
  let c128_i32 : BitVec 32 := 128#32
  let v31 : BitVec 32 := Scalar.muli arg18 c128_i32
  let v32 : BitVec 32 := v31
  let v700 : BitVec 32 := Scalar.addi c0_i32_141 v32
  let v701 : Index := Scalar.indexCast v700
  let c3328 : Index := 3328#32
  ![v701.toNat, 3328]
@[reducible] def k0_t2_loop : Scf.Loop 32 :=
  let c0_i32_20 : BitVec 32 := 0#32
  let c3_i32 : BitVec 32 := 3#32
  let v29 : BitVec 32 := Scalar.addi c0_i32_20 c3_i32
  let c1_i32_21 : BitVec 32 := 1#32
  ⟨c0_i32_20, v29, c1_i32_21⟩
def k0_mult2 (k0_t2 : Fin k0_t2_loop.trips) : BitVec 32 :=
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  v31
def k0_off43 (k0_t2 : Fin k0_t2_loop.trips) : Fin 2 → Nat :=
  let c0 : Index := 0#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v33 : Index := Scalar.indexCast v32
  ![0, v33.toNat]
def k0_off44 (k0_t2 : Fin k0_t2_loop.trips) : Fin 2 → Nat :=
  let c0_27 : Index := 0#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v36 : Index := Scalar.indexCast v32
  ![0, v36.toNat]
def k0_off45 (k0_t2 : Fin k0_t2_loop.trips) : Fin 2 → Nat :=
  let c2688_i32 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v76 : BitVec 32 := Scalar.addi c2688_i32 v32
  let v77 : Index := Scalar.indexCast v76
  let c0_30 : Index := 0#32
  ![v77.toNat, 0]
def k0_off46 (k0_t2 : Fin k0_t2_loop.trips) : Fin 2 → Nat :=
  let c128 : Index := 128#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v81 : Index := Scalar.indexCast v32
  ![128, v81.toNat]
def k0_off47 (k0_t2 : Fin k0_t2_loop.trips) : Fin 2 → Nat :=
  let c8 : Index := 8#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v84 : Index := Scalar.indexCast v32
  ![8, v84.toNat]
def k0_off48 (k0_t2 : Fin k0_t2_loop.trips) : Fin 2 → Nat :=
  let c2688_i32_38 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v124 : BitVec 32 := Scalar.addi c2688_i32_38 v32
  let v125 : Index := Scalar.indexCast v124
  let c256 : Index := 256#32
  ![v125.toNat, 256]
def k0_off49 (k0_t2 : Fin k0_t2_loop.trips) : Fin 2 → Nat :=
  let c256_39 : Index := 256#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v129 : Index := Scalar.indexCast v32
  ![256, v129.toNat]
def k0_off50 (k0_t2 : Fin k0_t2_loop.trips) : Fin 2 → Nat :=
  let c16 : Index := 16#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v132 : Index := Scalar.indexCast v32
  ![16, v132.toNat]
def k0_off51 (k0_t2 : Fin k0_t2_loop.trips) : Fin 2 → Nat :=
  let c2688_i32_47 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v172 : BitVec 32 := Scalar.addi c2688_i32_47 v32
  let v173 : Index := Scalar.indexCast v172
  let c512 : Index := 512#32
  ![v173.toNat, 512]
def k0_off52 (k0_t2 : Fin k0_t2_loop.trips) : Fin 2 → Nat :=
  let c384 : Index := 384#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v177 : Index := Scalar.indexCast v32
  ![384, v177.toNat]
def k0_off53 (k0_t2 : Fin k0_t2_loop.trips) : Fin 2 → Nat :=
  let c24 : Index := 24#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v180 : Index := Scalar.indexCast v32
  ![24, v180.toNat]
def k0_off54 (k0_t2 : Fin k0_t2_loop.trips) : Fin 2 → Nat :=
  let c2688_i32_55 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v220 : BitVec 32 := Scalar.addi c2688_i32_55 v32
  let v221 : Index := Scalar.indexCast v220
  let c768 : Index := 768#32
  ![v221.toNat, 768]
def k0_off55 (k0_t2 : Fin k0_t2_loop.trips) : Fin 2 → Nat :=
  let c512_56 : Index := 512#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v225 : Index := Scalar.indexCast v32
  ![512, v225.toNat]
def k0_off56 (k0_t2 : Fin k0_t2_loop.trips) : Fin 2 → Nat :=
  let c32 : Index := 32#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v228 : Index := Scalar.indexCast v32
  ![32, v228.toNat]
def k0_off57 (k0_t2 : Fin k0_t2_loop.trips) : Fin 2 → Nat :=
  let c2688_i32_64 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v268 : BitVec 32 := Scalar.addi c2688_i32_64 v32
  let v269 : Index := Scalar.indexCast v268
  let c1024 : Index := 1024#32
  ![v269.toNat, 1024]
def k0_off58 (k0_t2 : Fin k0_t2_loop.trips) : Fin 2 → Nat :=
  let c640 : Index := 640#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v273 : Index := Scalar.indexCast v32
  ![640, v273.toNat]
def k0_off59 (k0_t2 : Fin k0_t2_loop.trips) : Fin 2 → Nat :=
  let c40 : Index := 40#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v276 : Index := Scalar.indexCast v32
  ![40, v276.toNat]
def k0_off60 (k0_t2 : Fin k0_t2_loop.trips) : Fin 2 → Nat :=
  let c2688_i32_72 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v316 : BitVec 32 := Scalar.addi c2688_i32_72 v32
  let v317 : Index := Scalar.indexCast v316
  let c1280 : Index := 1280#32
  ![v317.toNat, 1280]
def k0_off61 (k0_t2 : Fin k0_t2_loop.trips) : Fin 2 → Nat :=
  let c768_73 : Index := 768#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v321 : Index := Scalar.indexCast v32
  ![768, v321.toNat]
def k0_off62 (k0_t2 : Fin k0_t2_loop.trips) : Fin 2 → Nat :=
  let c48 : Index := 48#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v324 : Index := Scalar.indexCast v32
  ![48, v324.toNat]
def k0_off63 (k0_t2 : Fin k0_t2_loop.trips) : Fin 2 → Nat :=
  let c2688_i32_81 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v364 : BitVec 32 := Scalar.addi c2688_i32_81 v32
  let v365 : Index := Scalar.indexCast v364
  let c1536 : Index := 1536#32
  ![v365.toNat, 1536]
def k0_off64 (k0_t2 : Fin k0_t2_loop.trips) : Fin 2 → Nat :=
  let c896 : Index := 896#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v369 : Index := Scalar.indexCast v32
  ![896, v369.toNat]
def k0_off65 (k0_t2 : Fin k0_t2_loop.trips) : Fin 2 → Nat :=
  let c56 : Index := 56#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v372 : Index := Scalar.indexCast v32
  ![56, v372.toNat]
def k0_off66 (k0_t2 : Fin k0_t2_loop.trips) : Fin 2 → Nat :=
  let c2688_i32_89 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v412 : BitVec 32 := Scalar.addi c2688_i32_89 v32
  let v413 : Index := Scalar.indexCast v412
  let c1792 : Index := 1792#32
  ![v413.toNat, 1792]
def k0_off67 (k0_t2 : Fin k0_t2_loop.trips) : Fin 2 → Nat :=
  let c1024_90 : Index := 1024#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v417 : Index := Scalar.indexCast v32
  ![1024, v417.toNat]
def k0_off68 (k0_t2 : Fin k0_t2_loop.trips) : Fin 2 → Nat :=
  let c64 : Index := 64#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v420 : Index := Scalar.indexCast v32
  ![64, v420.toNat]
def k0_off69 (k0_t2 : Fin k0_t2_loop.trips) : Fin 2 → Nat :=
  let c2688_i32_98 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v460 : BitVec 32 := Scalar.addi c2688_i32_98 v32
  let v461 : Index := Scalar.indexCast v460
  let c2048 : Index := 2048#32
  ![v461.toNat, 2048]
def k0_off70 (k0_t2 : Fin k0_t2_loop.trips) : Fin 2 → Nat :=
  let c1152 : Index := 1152#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v465 : Index := Scalar.indexCast v32
  ![1152, v465.toNat]
def k0_off71 (k0_t2 : Fin k0_t2_loop.trips) : Fin 2 → Nat :=
  let c72 : Index := 72#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v468 : Index := Scalar.indexCast v32
  ![72, v468.toNat]
def k0_off72 (k0_t2 : Fin k0_t2_loop.trips) : Fin 2 → Nat :=
  let c2688_i32_106 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v508 : BitVec 32 := Scalar.addi c2688_i32_106 v32
  let v509 : Index := Scalar.indexCast v508
  let c2304 : Index := 2304#32
  ![v509.toNat, 2304]
def k0_off73 (k0_t2 : Fin k0_t2_loop.trips) : Fin 2 → Nat :=
  let c1280_107 : Index := 1280#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v513 : Index := Scalar.indexCast v32
  ![1280, v513.toNat]
def k0_off74 (k0_t2 : Fin k0_t2_loop.trips) : Fin 2 → Nat :=
  let c80 : Index := 80#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v516 : Index := Scalar.indexCast v32
  ![80, v516.toNat]
def k0_off75 (k0_t2 : Fin k0_t2_loop.trips) : Fin 2 → Nat :=
  let c2688_i32_115 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v556 : BitVec 32 := Scalar.addi c2688_i32_115 v32
  let v557 : Index := Scalar.indexCast v556
  let c2560 : Index := 2560#32
  ![v557.toNat, 2560]
def k0_off76 (k0_t2 : Fin k0_t2_loop.trips) : Fin 2 → Nat :=
  let c1408 : Index := 1408#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v561 : Index := Scalar.indexCast v32
  ![1408, v561.toNat]
def k0_off77 (k0_t2 : Fin k0_t2_loop.trips) : Fin 2 → Nat :=
  let c88 : Index := 88#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v564 : Index := Scalar.indexCast v32
  ![88, v564.toNat]
def k0_off78 (k0_t2 : Fin k0_t2_loop.trips) : Fin 2 → Nat :=
  let c2688_i32_123 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v604 : BitVec 32 := Scalar.addi c2688_i32_123 v32
  let v605 : Index := Scalar.indexCast v604
  let c2816 : Index := 2816#32
  ![v605.toNat, 2816]
def k0_off79 (k0_t2 : Fin k0_t2_loop.trips) : Fin 2 → Nat :=
  let c1536_124 : Index := 1536#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v609 : Index := Scalar.indexCast v32
  ![1536, v609.toNat]
def k0_off80 (k0_t2 : Fin k0_t2_loop.trips) : Fin 2 → Nat :=
  let c96 : Index := 96#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v612 : Index := Scalar.indexCast v32
  ![96, v612.toNat]
def k0_off81 (k0_t2 : Fin k0_t2_loop.trips) : Fin 2 → Nat :=
  let c2688_i32_132 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v652 : BitVec 32 := Scalar.addi c2688_i32_132 v32
  let v653 : Index := Scalar.indexCast v652
  let c3072 : Index := 3072#32
  ![v653.toNat, 3072]
def k0_off82 (k0_t2 : Fin k0_t2_loop.trips) : Fin 2 → Nat :=
  let c1664 : Index := 1664#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v657 : Index := Scalar.indexCast v32
  ![1664, v657.toNat]
def k0_off83 (k0_t2 : Fin k0_t2_loop.trips) : Fin 2 → Nat :=
  let c104 : Index := 104#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v660 : Index := Scalar.indexCast v32
  ![104, v660.toNat]
def k0_off84 (k0_t2 : Fin k0_t2_loop.trips) : Fin 2 → Nat :=
  let c2688_i32_140 : BitVec 32 := 2688#32
  let c0_i32_20 : BitVec 32 := 0#32
  let c1_i32_21 : BitVec 32 := 1#32
  let arg18 : BitVec 32 := Scf.iv c0_i32_20 c1_i32_21 k0_t2
  let c128_i32 : BitVec 32 := 128#32
  let v31 : BitVec 32 := Scalar.muli arg18 c128_i32
  let v32 : BitVec 32 := v31
  let v700 : BitVec 32 := Scalar.addi c2688_i32_140 v32
  let v701 : Index := Scalar.indexCast v700
  let c3328 : Index := 3328#32
  ![v701.toNat, 3328]
@[reducible] def k0_t3_loop : Scf.Loop 32 :=
  let c0_i32_23 : BitVec 32 := 0#32
  let c3_i32_24 : BitVec 32 := 3#32
  let v30 : BitVec 32 := Scalar.addi c0_i32_23 c3_i32_24
  let c1_i32_25 : BitVec 32 := 1#32
  ⟨c0_i32_23, v30, c1_i32_25⟩
def k0_mult3 (k0_t3 : Fin k0_t3_loop.trips) : BitVec 32 :=
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  v31
def k0_off85 (k0_t3 : Fin k0_t3_loop.trips) : Fin 2 → Nat :=
  let c0 : Index := 0#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v33 : Index := Scalar.indexCast v32
  ![0, v33.toNat]
def k0_off86 (k0_t3 : Fin k0_t3_loop.trips) : Fin 2 → Nat :=
  let c0_27 : Index := 0#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v36 : Index := Scalar.indexCast v32
  ![0, v36.toNat]
def k0_off87 (k0_t3 : Fin k0_t3_loop.trips) : Fin 2 → Nat :=
  let c3072_i32 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v76 : BitVec 32 := Scalar.addi c3072_i32 v32
  let v77 : Index := Scalar.indexCast v76
  let c0_30 : Index := 0#32
  ![v77.toNat, 0]
def k0_off88 (k0_t3 : Fin k0_t3_loop.trips) : Fin 2 → Nat :=
  let c128 : Index := 128#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v81 : Index := Scalar.indexCast v32
  ![128, v81.toNat]
def k0_off89 (k0_t3 : Fin k0_t3_loop.trips) : Fin 2 → Nat :=
  let c8 : Index := 8#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v84 : Index := Scalar.indexCast v32
  ![8, v84.toNat]
def k0_off90 (k0_t3 : Fin k0_t3_loop.trips) : Fin 2 → Nat :=
  let c3072_i32_38 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v124 : BitVec 32 := Scalar.addi c3072_i32_38 v32
  let v125 : Index := Scalar.indexCast v124
  let c256 : Index := 256#32
  ![v125.toNat, 256]
def k0_off91 (k0_t3 : Fin k0_t3_loop.trips) : Fin 2 → Nat :=
  let c256_39 : Index := 256#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v129 : Index := Scalar.indexCast v32
  ![256, v129.toNat]
def k0_off92 (k0_t3 : Fin k0_t3_loop.trips) : Fin 2 → Nat :=
  let c16 : Index := 16#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v132 : Index := Scalar.indexCast v32
  ![16, v132.toNat]
def k0_off93 (k0_t3 : Fin k0_t3_loop.trips) : Fin 2 → Nat :=
  let c3072_i32_47 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v172 : BitVec 32 := Scalar.addi c3072_i32_47 v32
  let v173 : Index := Scalar.indexCast v172
  let c512 : Index := 512#32
  ![v173.toNat, 512]
def k0_off94 (k0_t3 : Fin k0_t3_loop.trips) : Fin 2 → Nat :=
  let c384 : Index := 384#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v177 : Index := Scalar.indexCast v32
  ![384, v177.toNat]
def k0_off95 (k0_t3 : Fin k0_t3_loop.trips) : Fin 2 → Nat :=
  let c24 : Index := 24#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v180 : Index := Scalar.indexCast v32
  ![24, v180.toNat]
def k0_off96 (k0_t3 : Fin k0_t3_loop.trips) : Fin 2 → Nat :=
  let c3072_i32_55 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v220 : BitVec 32 := Scalar.addi c3072_i32_55 v32
  let v221 : Index := Scalar.indexCast v220
  let c768 : Index := 768#32
  ![v221.toNat, 768]
def k0_off97 (k0_t3 : Fin k0_t3_loop.trips) : Fin 2 → Nat :=
  let c512_56 : Index := 512#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v225 : Index := Scalar.indexCast v32
  ![512, v225.toNat]
def k0_off98 (k0_t3 : Fin k0_t3_loop.trips) : Fin 2 → Nat :=
  let c32 : Index := 32#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v228 : Index := Scalar.indexCast v32
  ![32, v228.toNat]
def k0_off99 (k0_t3 : Fin k0_t3_loop.trips) : Fin 2 → Nat :=
  let c3072_i32_64 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v268 : BitVec 32 := Scalar.addi c3072_i32_64 v32
  let v269 : Index := Scalar.indexCast v268
  let c1024 : Index := 1024#32
  ![v269.toNat, 1024]
def k0_off100 (k0_t3 : Fin k0_t3_loop.trips) : Fin 2 → Nat :=
  let c640 : Index := 640#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v273 : Index := Scalar.indexCast v32
  ![640, v273.toNat]
def k0_off101 (k0_t3 : Fin k0_t3_loop.trips) : Fin 2 → Nat :=
  let c40 : Index := 40#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v276 : Index := Scalar.indexCast v32
  ![40, v276.toNat]
def k0_off102 (k0_t3 : Fin k0_t3_loop.trips) : Fin 2 → Nat :=
  let c3072_i32_72 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v316 : BitVec 32 := Scalar.addi c3072_i32_72 v32
  let v317 : Index := Scalar.indexCast v316
  let c1280 : Index := 1280#32
  ![v317.toNat, 1280]
def k0_off103 (k0_t3 : Fin k0_t3_loop.trips) : Fin 2 → Nat :=
  let c768_73 : Index := 768#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v321 : Index := Scalar.indexCast v32
  ![768, v321.toNat]
def k0_off104 (k0_t3 : Fin k0_t3_loop.trips) : Fin 2 → Nat :=
  let c48 : Index := 48#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v324 : Index := Scalar.indexCast v32
  ![48, v324.toNat]
def k0_off105 (k0_t3 : Fin k0_t3_loop.trips) : Fin 2 → Nat :=
  let c3072_i32_81 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v364 : BitVec 32 := Scalar.addi c3072_i32_81 v32
  let v365 : Index := Scalar.indexCast v364
  let c1536 : Index := 1536#32
  ![v365.toNat, 1536]
def k0_off106 (k0_t3 : Fin k0_t3_loop.trips) : Fin 2 → Nat :=
  let c896 : Index := 896#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v369 : Index := Scalar.indexCast v32
  ![896, v369.toNat]
def k0_off107 (k0_t3 : Fin k0_t3_loop.trips) : Fin 2 → Nat :=
  let c56 : Index := 56#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v372 : Index := Scalar.indexCast v32
  ![56, v372.toNat]
def k0_off108 (k0_t3 : Fin k0_t3_loop.trips) : Fin 2 → Nat :=
  let c3072_i32_89 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v412 : BitVec 32 := Scalar.addi c3072_i32_89 v32
  let v413 : Index := Scalar.indexCast v412
  let c1792 : Index := 1792#32
  ![v413.toNat, 1792]
def k0_off109 (k0_t3 : Fin k0_t3_loop.trips) : Fin 2 → Nat :=
  let c1024_90 : Index := 1024#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v417 : Index := Scalar.indexCast v32
  ![1024, v417.toNat]
def k0_off110 (k0_t3 : Fin k0_t3_loop.trips) : Fin 2 → Nat :=
  let c64 : Index := 64#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v420 : Index := Scalar.indexCast v32
  ![64, v420.toNat]
def k0_off111 (k0_t3 : Fin k0_t3_loop.trips) : Fin 2 → Nat :=
  let c3072_i32_98 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v460 : BitVec 32 := Scalar.addi c3072_i32_98 v32
  let v461 : Index := Scalar.indexCast v460
  let c2048 : Index := 2048#32
  ![v461.toNat, 2048]
def k0_off112 (k0_t3 : Fin k0_t3_loop.trips) : Fin 2 → Nat :=
  let c1152 : Index := 1152#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v465 : Index := Scalar.indexCast v32
  ![1152, v465.toNat]
def k0_off113 (k0_t3 : Fin k0_t3_loop.trips) : Fin 2 → Nat :=
  let c72 : Index := 72#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v468 : Index := Scalar.indexCast v32
  ![72, v468.toNat]
def k0_off114 (k0_t3 : Fin k0_t3_loop.trips) : Fin 2 → Nat :=
  let c3072_i32_106 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v508 : BitVec 32 := Scalar.addi c3072_i32_106 v32
  let v509 : Index := Scalar.indexCast v508
  let c2304 : Index := 2304#32
  ![v509.toNat, 2304]
def k0_off115 (k0_t3 : Fin k0_t3_loop.trips) : Fin 2 → Nat :=
  let c1280_107 : Index := 1280#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v513 : Index := Scalar.indexCast v32
  ![1280, v513.toNat]
def k0_off116 (k0_t3 : Fin k0_t3_loop.trips) : Fin 2 → Nat :=
  let c80 : Index := 80#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v516 : Index := Scalar.indexCast v32
  ![80, v516.toNat]
def k0_off117 (k0_t3 : Fin k0_t3_loop.trips) : Fin 2 → Nat :=
  let c3072_i32_115 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v556 : BitVec 32 := Scalar.addi c3072_i32_115 v32
  let v557 : Index := Scalar.indexCast v556
  let c2560 : Index := 2560#32
  ![v557.toNat, 2560]
def k0_off118 (k0_t3 : Fin k0_t3_loop.trips) : Fin 2 → Nat :=
  let c1408 : Index := 1408#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v561 : Index := Scalar.indexCast v32
  ![1408, v561.toNat]
def k0_off119 (k0_t3 : Fin k0_t3_loop.trips) : Fin 2 → Nat :=
  let c88 : Index := 88#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v564 : Index := Scalar.indexCast v32
  ![88, v564.toNat]
def k0_off120 (k0_t3 : Fin k0_t3_loop.trips) : Fin 2 → Nat :=
  let c3072_i32_123 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v604 : BitVec 32 := Scalar.addi c3072_i32_123 v32
  let v605 : Index := Scalar.indexCast v604
  let c2816 : Index := 2816#32
  ![v605.toNat, 2816]
def k0_off121 (k0_t3 : Fin k0_t3_loop.trips) : Fin 2 → Nat :=
  let c1536_124 : Index := 1536#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v609 : Index := Scalar.indexCast v32
  ![1536, v609.toNat]
def k0_off122 (k0_t3 : Fin k0_t3_loop.trips) : Fin 2 → Nat :=
  let c96 : Index := 96#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v612 : Index := Scalar.indexCast v32
  ![96, v612.toNat]
def k0_off123 (k0_t3 : Fin k0_t3_loop.trips) : Fin 2 → Nat :=
  let c3072_i32_132 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v652 : BitVec 32 := Scalar.addi c3072_i32_132 v32
  let v653 : Index := Scalar.indexCast v652
  let c3072 : Index := 3072#32
  ![v653.toNat, 3072]
def k0_off124 (k0_t3 : Fin k0_t3_loop.trips) : Fin 2 → Nat :=
  let c1664 : Index := 1664#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v657 : Index := Scalar.indexCast v32
  ![1664, v657.toNat]
def k0_off125 (k0_t3 : Fin k0_t3_loop.trips) : Fin 2 → Nat :=
  let c104 : Index := 104#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v660 : Index := Scalar.indexCast v32
  ![104, v660.toNat]
def k0_off126 (k0_t3 : Fin k0_t3_loop.trips) : Fin 2 → Nat :=
  let c3072_i32_140 : BitVec 32 := 3072#32
  let c0_i32_23 : BitVec 32 := 0#32
  let c1_i32_25 : BitVec 32 := 1#32
  let arg18 : BitVec 32 := Scf.iv c0_i32_23 c1_i32_25 k0_t3
  let c128_i32 : BitVec 32 := 128#32
  let v31 : BitVec 32 := Scalar.muli arg18 c128_i32
  let v32 : BitVec 32 := v31
  let v700 : BitVec 32 := Scalar.addi c3072_i32_140 v32
  let v701 : Index := Scalar.indexCast v700
  let c3328 : Index := 3328#32
  ![v701.toNat, 3328]
@[reducible] def k0_t4_loop : Scf.Loop 32 :=
  let c0_i32_12 : BitVec 32 := 0#32
  let c32_i32 : BitVec 32 := 32#32
  let v24 : BitVec 32 := Scalar.addi c0_i32_12 c32_i32
  let c1_i32_13 : BitVec 32 := 1#32
  ⟨c0_i32_12, v24, c1_i32_13⟩
def k0_mult4 (k0_t4 : Fin k0_t4_loop.trips) : BitVec 32 :=
  let c0_i32_12 : BitVec 32 := 0#32
  let c1_i32_13 : BitVec 32 := 1#32
  let arg18 : BitVec 32 := Scf.iv c0_i32_12 c1_i32_13 k0_t4
  let c16_i32 : BitVec 32 := 16#32
  let v28 : BitVec 32 := Scalar.muli arg18 c16_i32
  v28
def k0_off127 (k0_t4 : Fin k0_t4_loop.trips) : Fin 3 → Nat :=
  let c0 : Index := 0#32
  let c0_i32_12 : BitVec 32 := 0#32
  let c1_i32_13 : BitVec 32 := 1#32
  let arg18 : BitVec 32 := Scf.iv c0_i32_12 c1_i32_13 k0_t4
  let c16_i32 : BitVec 32 := 16#32
  let v28 : BitVec 32 := Scalar.muli arg18 c16_i32
  let v29 : BitVec 32 := v28
  let v30 : Index := Scalar.indexCast v29
  let c0_17 : Index := 0#32
  ![0, v30.toNat, 0]
def k0_off128 (i : grid0.Coords) (k0_t4 : Fin k0_t4_loop.trips) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v49 : Index := Scalar.indexCast v12
  let c0_i32_12 : BitVec 32 := 0#32
  let c1_i32_13 : BitVec 32 := 1#32
  let arg18 : BitVec 32 := Scf.iv c0_i32_12 c1_i32_13 k0_t4
  let c16_i32 : BitVec 32 := 16#32
  let v28 : BitVec 32 := Scalar.muli arg18 c16_i32
  let v29 : BitVec 32 := v28
  let v50 : Index := Scalar.indexCast v29
  let c0_22 : Index := 0#32
  ![v49.toNat, v50.toNat, 0]
def k0_cond2 (i : grid0.Coords) : BitVec 1 :=
  let arg0 : BitVec 32 := BitVec.ofNat 32 (i 0).val
  let c0_i32_15 : BitVec 32 := 0#32
  let v25 : BitVec 1 := Scalar.cmpi .sgt arg0 c0_i32_15
  let v26 : BitVec 32 := Scalar.extui v25
  let c0_i32_16 : BitVec 32 := 0#32
  let v27 : BitVec 1 := Scalar.cmpi .ne v26 c0_i32_16
  v27

@[reducible] def k0_t5_loop : Scf.Loop 32 :=
  let c0_i32_25 : BitVec 32 := 0#32
  let c7_i32 : BitVec 32 := 7#32
  let v44 : BitVec 32 := Scalar.addi c0_i32_25 c7_i32
  let c1_i32_26 : BitVec 32 := 1#32
  ⟨c0_i32_25, v44, c1_i32_26⟩
def k0_mult5 (k0_t5 : Fin k0_t5_loop.trips) : BitVec 32 :=
  let c0_i32_25 : BitVec 32 := 0#32
  let c1_i32_26 : BitVec 32 := 1#32
  let arg18 : BitVec 32 := Scf.iv c0_i32_25 c1_i32_26 k0_t5
  let c384_i32 : BitVec 32 := 384#32
  let v449 : BitVec 32 := Scalar.muli arg18 c384_i32
  v449
def k0_off129 (k0_t5 : Fin k0_t5_loop.trips) : Fin 2 → Nat :=
  let c0_i32_25 : BitVec 32 := 0#32
  let c1_i32_26 : BitVec 32 := 1#32
  let arg18 : BitVec 32 := Scf.iv c0_i32_25 c1_i32_26 k0_t5
  let c384_i32 : BitVec 32 := 384#32
  let v449 : BitVec 32 := Scalar.muli arg18 c384_i32
  let v450 : BitVec 32 := v449
  let v451 : Index := Scalar.indexCast v450
  let c0_45 : Index := 0#32
  ![v451.toNat, 0]
def k0_off130 (i : grid0.Coords) : Fin 3 → Nat :=
  let arg0 : BitVec 32 := BitVec.ofNat 32 (i 0).val
  let c1_i32_5 : BitVec 32 := 1#32
  let v13 : BitVec 32 := Scalar.addi arg0 c1_i32_5
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi v13 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v453 : Index := Scalar.indexCast v23
  let c0_46 : Index := 0#32
  let c0_47 : Index := 0#32
  ![v453.toNat, 0, 0]
def k0_off131 (k0_t5 : Fin k0_t5_loop.trips) : Fin 3 → Nat :=
  let c0_53 : Index := 0#32
  let c0_i32_25 : BitVec 32 := 0#32
  let c1_i32_26 : BitVec 32 := 1#32
  let arg18 : BitVec 32 := Scf.iv c0_i32_25 c1_i32_26 k0_t5
  let c384_i32 : BitVec 32 := 384#32
  let v449 : BitVec 32 := Scalar.muli arg18 c384_i32
  let v450 : BitVec 32 := v449
  let v748 : Index := Scalar.indexCast v450
  let c0_54 : Index := 0#32
  ![0, v748.toNat, 0]
def k0_off132 (i : grid0.Coords) : Fin 3 → Nat :=
  let arg0 : BitVec 32 := BitVec.ofNat 32 (i 0).val
  let c1_i32_5 : BitVec 32 := 1#32
  let v13 : BitVec 32 := Scalar.addi arg0 c1_i32_5
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi v13 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v46 : Index := Scalar.indexCast v23
  let c0_29 : Index := 0#32
  let c0_30 : Index := 0#32
  ![v46.toNat, 0, 0]
def cc0_transform_0 (i : grid0.Coords) : Fin 3 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x2688 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S112x2688 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x384 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S112x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1792x384 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S112x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_d" => some ((1 / 3584 : ℝ) : EReal)
  | _ => none
-- ==== ReferenceIdeal.lean ====
abbrev S24x512x3584 : Shape := ⟨3, ![24, 512, 3584]⟩
abbrev S3584 : Shape := ⟨1, ![3584]⟩
abbrev S24x512 : Shape := ⟨2, ![24, 512]⟩
abbrev S2688x112x16 : Shape := ⟨3, ![2688, 112, 16]⟩
abbrev S2688x112 : Shape := ⟨2, ![2688, 112]⟩
abbrev S384x112x16 : Shape := ⟨3, ![384, 112, 16]⟩
abbrev S384x112 : Shape := ⟨2, ![384, 112]⟩
abbrev S48 : Shape := ⟨1, ![48]⟩
abbrev S_ : Shape := ⟨0, ![]⟩
abbrev S24x512x1 : Shape := ⟨3, ![24, 512, 1]⟩
abbrev S1x1x3584 : Shape := ⟨3, ![1, 1, 3584]⟩
abbrev S24x512x112x2x16 : Shape := ⟨5, ![24, 512, 112, 2, 16]⟩
abbrev S2688x112x1 : Shape := ⟨3, ![2688, 112, 1]⟩
abbrev S24x512x112x1x16 : Shape := ⟨5, ![24, 512, 112, 1, 16]⟩
abbrev S24x512x112x16 : Shape := ⟨4, ![24, 512, 112, 16]⟩
abbrev S24x512x2688 : Shape := ⟨3, ![24, 512, 2688]⟩
abbrev S24x512x28x96 : Shape := ⟨4, ![24, 512, 28, 96]⟩
abbrev S384x112x1 : Shape := ⟨3, ![384, 112, 1]⟩
abbrev S24x512x384 : Shape := ⟨3, ![24, 512, 384]⟩
abbrev S24x512x4x96 : Shape := ⟨4, ![24, 512, 4, 96]⟩
abbrev S1x1x48 : Shape := ⟨3, ![1, 1, 48]⟩
abbrev S24x512x48 : Shape := ⟨3, ![24, 512, 48]⟩
abbrev S24x512x1x48 : Shape := ⟨4, ![24, 512, 1, 48]⟩
abbrev S24x512x28x48x2 : Shape := ⟨5, ![24, 512, 28, 48, 2]⟩
abbrev S24x512x28x48x1 : Shape := ⟨5, ![24, 512, 28, 48, 1]⟩
abbrev S24x512x28x48 : Shape := ⟨4, ![24, 512, 28, 48]⟩
abbrev S24x512x4x48x2 : Shape := ⟨5, ![24, 512, 4, 48, 2]⟩
abbrev S24x512x4x48x1 : Shape := ⟨5, ![24, 512, 4, 48, 1]⟩
abbrev S24x512x4x48 : Shape := ⟨4, ![24, 512, 4, 48]⟩

abbrev nBuf : Space → Nat
  | .hbm => 164
  | .vmem => 0
  | .smem => 0
  | _ => 0

abbrev hbmTy0_0 (i : Nat) : BufTy := match i % 128 with
  | 0 => ⟨S24x512x3584, .bf16⟩
  | 1 => ⟨S3584, .f32⟩
  | 2 => ⟨S24x512, .i32⟩
  | 3 => ⟨S2688x112x16, .i8⟩
  | 4 => ⟨S2688x112, .bf16⟩
  | 5 => ⟨S384x112x16, .i8⟩
  | 6 => ⟨S384x112, .bf16⟩
  | 7 => ⟨S384x112x16, .i8⟩
  | 8 => ⟨S384x112, .bf16⟩
  | 9 => ⟨S48, .f32⟩
  | 10 => ⟨S24x512x3584, .f32⟩
  | 11 => ⟨S24x512x3584, .f32⟩
  | 12 => ⟨S_, .f32⟩
  | 13 => ⟨S24x512, .f32⟩
  | 14 => ⟨S24x512x1, .f32⟩
  | 15 => ⟨S_, .f32⟩
  | 16 => ⟨S24x512x1, .f32⟩
  | 17 => ⟨S24x512x1, .f32⟩
  | 18 => ⟨S_, .f32⟩
  | 19 => ⟨S24x512x1, .f32⟩
  | 20 => ⟨S24x512x1, .f32⟩
  | 21 => ⟨S24x512x1, .f32⟩
  | 22 => ⟨S24x512x3584, .f32⟩
  | 23 => ⟨S24x512x3584, .f32⟩
  | 24 => ⟨S1x1x3584, .f32⟩
  | 25 => ⟨S24x512x3584, .f32⟩
  | 26 => ⟨S24x512x3584, .f32⟩
  | 27 => ⟨S24x512x3584, .bf16⟩
  | 28 => ⟨S24x512x112x2x16, .bf16⟩
  | 29 => ⟨S2688x112x1, .bf16⟩
  | 30 => ⟨S2688x112x16, .i32⟩
  | 31 => ⟨S_, .i32⟩
  | 32 => ⟨S2688x112x16, .i32⟩
  | 33 => ⟨S2688x112x16, .i32⟩
  | 34 => ⟨S2688x112x16, .bf16⟩
  | 35 => ⟨S_, .bf16⟩
  | 36 => ⟨S2688x112x16, .bf16⟩
  | 37 => ⟨S2688x112x16, .bf16⟩
  | 38 => ⟨S2688x112x16, .bf16⟩
  | 39 => ⟨S2688x112x16, .bf16⟩
  | 40 => ⟨S_, .i32⟩
  | 41 => ⟨S2688x112x16, .i32⟩
  | 42 => ⟨S2688x112x16, .i32⟩
  | 43 => ⟨S2688x112x16, .bf16⟩
  | 44 => ⟨S_, .bf16⟩
  | 45 => ⟨S2688x112x16, .bf16⟩
  | 46 => ⟨S2688x112x16, .bf16⟩
  | 47 => ⟨S2688x112x16, .bf16⟩
  | 48 => ⟨S2688x112x16, .bf16⟩
  | 49 => ⟨S24x512x112x1x16, .bf16⟩
  | 50 => ⟨S24x512x112x16, .bf16⟩
  | 51 => ⟨S24x512x2688, .f32⟩
  | 52 => ⟨S24x512x112x1x16, .bf16⟩
  | 53 => ⟨S24x512x112x16, .bf16⟩
  | 54 => ⟨S24x512x2688, .f32⟩
  | 55 => ⟨S24x512x2688, .f32⟩
  | 56 => ⟨S24x512x28x96, .f32⟩
  | 57 => ⟨S384x112x1, .bf16⟩
  | 58 => ⟨S384x112x16, .i32⟩
  | 59 => ⟨S_, .i32⟩
  | 60 => ⟨S384x112x16, .i32⟩
  | 61 => ⟨S384x112x16, .i32⟩
  | 62 => ⟨S384x112x16, .bf16⟩
  | 63 => ⟨S_, .bf16⟩
  | 64 => ⟨S384x112x16, .bf16⟩
  | 65 => ⟨S384x112x16, .bf16⟩
  | 66 => ⟨S384x112x16, .bf16⟩
  | 67 => ⟨S384x112x16, .bf16⟩
  | 68 => ⟨S_, .i32⟩
  | 69 => ⟨S384x112x16, .i32⟩
  | 70 => ⟨S384x112x16, .i32⟩
  | 71 => ⟨S384x112x16, .bf16⟩
  | 72 => ⟨S_, .bf16⟩
  | 73 => ⟨S384x112x16, .bf16⟩
  | 74 => ⟨S384x112x16, .bf16⟩
  | 75 => ⟨S384x112x16, .bf16⟩
  | 76 => ⟨S384x112x16, .bf16⟩
  | 77 => ⟨S24x512x112x1x16, .bf16⟩
  | 78 => ⟨S24x512x112x16, .bf16⟩
  | 79 => ⟨S24x512x384, .f32⟩
  | 80 => ⟨S24x512x112x1x16, .bf16⟩
  | 81 => ⟨S24x512x112x16, .bf16⟩
  | 82 => ⟨S24x512x384, .f32⟩
  | 83 => ⟨S24x512x384, .f32⟩
  | 84 => ⟨S24x512x4x96, .f32⟩
  | 85 => ⟨S384x112x1, .bf16⟩
  | 86 => ⟨S384x112x16, .i32⟩
  | 87 => ⟨S_, .i32⟩
  | 88 => ⟨S384x112x16, .i32⟩
  | 89 => ⟨S384x112x16, .i32⟩
  | 90 => ⟨S384x112x16, .bf16⟩
  | 91 => ⟨S_, .bf16⟩
  | 92 => ⟨S384x112x16, .bf16⟩
  | 93 => ⟨S384x112x16, .bf16⟩
  | 94 => ⟨S384x112x16, .bf16⟩
  | 95 => ⟨S384x112x16, .bf16⟩
  | 96 => ⟨S_, .i32⟩
  | 97 => ⟨S384x112x16, .i32⟩
  | 98 => ⟨S384x112x16, .i32⟩
  | 99 => ⟨S384x112x16, .bf16⟩
  | 100 => ⟨S_, .bf16⟩
  | 101 => ⟨S384x112x16, .bf16⟩
  | 102 => ⟨S384x112x16, .bf16⟩
  | 103 => ⟨S384x112x16, .bf16⟩
  | 104 => ⟨S384x112x16, .bf16⟩
  | 105 => ⟨S24x512x112x1x16, .bf16⟩
  | 106 => ⟨S24x512x112x16, .bf16⟩
  | 107 => ⟨S24x512x384, .f32⟩
  | 108 => ⟨S24x512x112x1x16, .bf16⟩
  | 109 => ⟨S24x512x112x16, .bf16⟩
  | 110 => ⟨S24x512x384, .f32⟩
  | 111 => ⟨S24x512x384, .f32⟩
  | 112 => ⟨S24x512x4x96, .f32⟩
  | 113 => ⟨S24x512, .f32⟩
  | 114 => ⟨S24x512x1, .f32⟩
  | 115 => ⟨S1x1x48, .f32⟩
  | 116 => ⟨S24x512x48, .f32⟩
  | 117 => ⟨S24x512x48, .f32⟩
  | 118 => ⟨S24x512x48, .f32⟩
  | 119 => ⟨S24x512x48, .f32⟩
  | 120 => ⟨S24x512x1x48, .f32⟩
  | 121 => ⟨S24x512x48, .f32⟩
  | 122 => ⟨S24x512x1x48, .f32⟩
  | 123 => ⟨S24x512x28x48x2, .f32⟩
  | 124 => ⟨S24x512x28x48x1, .f32⟩
  | 125 => ⟨S24x512x28x48, .f32⟩
  | 126 => ⟨S24x512x28x48x1, .f32⟩
  | 127 => ⟨S24x512x28x48, .f32⟩
  | _ => ⟨S24x512x3584, .bf16⟩

abbrev hbmTy0_1 (i : Nat) : BufTy := match i % 128 with
  | 0 => ⟨S24x512x28x48, .f32⟩
  | 1 => ⟨S24x512x28x48, .f32⟩
  | 2 => ⟨S24x512x28x48, .f32⟩
  | 3 => ⟨S24x512x28x48, .f32⟩
  | 4 => ⟨S24x512x28x48, .f32⟩
  | 5 => ⟨S24x512x28x48, .f32⟩
  | 6 => ⟨S24x512x28x48, .f32⟩
  | 7 => ⟨S24x512x28x48, .f32⟩
  | 8 => ⟨S24x512x28x48, .f32⟩
  | 9 => ⟨S24x512x28x48, .f32⟩
  | 10 => ⟨S24x512x28x48x1, .f32⟩
  | 11 => ⟨S24x512x28x48x1, .f32⟩
  | 12 => ⟨S24x512x28x48x2, .f32⟩
  | 13 => ⟨S24x512x28x96, .f32⟩
  | 14 => ⟨S24x512x28x96, .bf16⟩
  | 15 => ⟨S24x512x4x48x2, .f32⟩
  | 16 => ⟨S24x512x4x48x1, .f32⟩
  | 17 => ⟨S24x512x4x48, .f32⟩
  | 18 => ⟨S24x512x4x48x1, .f32⟩
  | 19 => ⟨S24x512x4x48, .f32⟩
  | 20 => ⟨S24x512x4x48, .f32⟩
  | 21 => ⟨S24x512x4x48, .f32⟩
  | 22 => ⟨S24x512x4x48, .f32⟩
  | 23 => ⟨S24x512x4x48, .f32⟩
  | 24 => ⟨S24x512x4x48, .f32⟩
  | 25 => ⟨S24x512x4x48, .f32⟩
  | 26 => ⟨S24x512x4x48, .f32⟩
  | 27 => ⟨S24x512x4x48, .f32⟩
  | 28 => ⟨S24x512x4x48, .f32⟩
  | 29 => ⟨S24x512x4x48, .f32⟩
  | 30 => ⟨S24x512x4x48x1, .f32⟩
  | 31 => ⟨S24x512x4x48x1, .f32⟩
  | 32 => ⟨S24x512x4x48x2, .f32⟩
  | 33 => ⟨S24x512x4x96, .f32⟩
  | 34 => ⟨S24x512x4x96, .bf16⟩
  | 35 => ⟨S24x512x4x96, .bf16⟩
  | _ => ⟨S24x512x3584, .bf16⟩

abbrev hbmTy (i : Nat) : BufTy := match i / 128 with
  | 0 => hbmTy0_0 i
  | 1 => hbmTy0_1 i
  | _ => ⟨S24x512x3584, .bf16⟩

abbrev bufTy : (tb : Table) → Fin (tcTables nBuf tb) → BufTy
  | .hbm, ⟨i, _⟩ => hbmTy i
  | _, _ => ⟨S24x512x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩

abbrev nD : Nat := 1
abbrev τ : Topo := Topo.v7x

variable {F : FTy → Type} [FloatOps F]
-- ==== Proof.Kernel.RunA.lean ====
module

public import proofs.«01_k».proof.Proof.Gen.Kernel.Frame
public import proofs.«01_k».proof.Proof.Gen.Kernel.Loops
public import proofs.«01_k».proof.Proof.Gen.Kernel.Points
public import Idealize.ShloMosaic.Lib.Pipeline.FrameSuffix
public import Idealize.ShloMosaic.Lib.Pipeline.FrameBody

@[expose] public section

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point: the weights are dequantized and the first block of rows normalized. Inputs are
    left as found; of the outputs and the scratch nothing is said. -/
theorem run_first (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole) (hc0 : k0_cond1 i = 1#1) (hc1 : ¬ k0_cond2 i = 1#1)
    (x0 : Vec F S1x512x3584 .bf16) (x1 : Vec F S1x3584 .f32) (x2 : Vec F S1x1x512 .i32) (x3 : Vec F S48x1 .f32) (x4 : Vec F S1792x2688 .i8) (x5 : Vec F S112x2688 .bf16) (x6 : Vec F S1792x384 .i8) (x7 : Vec F S112x384 .bf16) (x8 : Vec F S1792x384 .i8) (x9 : Vec F S112x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.Kernel.FrameProof

end
-- ==== Proof.Kernel.RunB.lean ====
module

public import proofs.«01_k».proof.Proof.Kernel.RunA
public import proofs.«01_k».proof.Proof.Gen.Kernel.Frame
public import proofs.«01_k».proof.Proof.Gen.Kernel.Loops
public import proofs.«01_k».proof.Proof.Gen.Kernel.Points
public import Idealize.ShloMosaic.Lib.Pipeline.FrameSuffix
public import Idealize.ShloMosaic.Lib.Pipeline.FrameBody

@[expose] public section

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at every later grid point: one block of rows is normalized and the block before it is projected and
    stored. Inputs are left as found; of the outputs and the scratch nothing is said. -/
theorem run_later (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole) (hc0 : ¬ k0_cond1 i = 1#1) (hc1 : k0_cond2 i = 1#1)
    (x0 : Vec F S1x512x3584 .bf16) (x1 : Vec F S1x3584 .f32) (x2 : Vec F S1x1x512 .i32) (x3 : Vec F S48x1 .f32) (x4 : Vec F S1792x2688 .i8) (x5 : Vec F S112x2688 .bf16) (x6 : Vec F S1792x384 .i8) (x7 : Vec F S112x384 .bf16) (x8 : Vec F S1792x384 .i8) (x9 : Vec F S112x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.Kernel.FrameProof

end
-- ==== Proof.Kernel.Frame.lean ====
module

public import proofs.«01_k».proof.Proof.Kernel.RunA
public import proofs.«01_k».proof.Proof.Kernel.RunB
public import proofs.«01_k».proof.Proof.Gen.Kernel.Frame
public import proofs.«01_k».proof.Proof.Gen.Kernel.Loops
public import proofs.«01_k».proof.Proof.Gen.Kernel.Points
public import Idealize.ShloMosaic.Lib.Pipeline.FrameSuffix
public import Idealize.ShloMosaic.Lib.Pipeline.FrameBody

@[expose] public section

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region write. -/
def T0 : Finset (Ref sig .tc) := {main_v13, main_v14, main_v15, main_v16, main_v17, main_v18}
/-- Those lines write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.unary_writes, StableHlo.reshape_writes, Finset.mem_singleton] at hb; cases Proc.devRef_injective _ hb; decide

/-- The first branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second branch is taken at every later point. -/
theorem hcond2 : ∀ t : Fin cfg0.N, k0_cond2 (grid0.coords t) = 1#1 ↔ ¬ t.val = 0 :=
  (by decide +kernel : ∀ t : Fin grid0.N, k0_cond2 (grid0.coords t) = 1#1 ↔ ¬ t.val = 0)

/-- No input window is ever idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl

/-- Each window's staging memref at a point. -/
abbrev ms0 (t : Fin cfg0.N) : Memref sig .tc .vmem S1x512x3584 .bf16 := win0_0.stage (cfg0.slots t 0)
abbrev ms1 (t : Fin cfg0.N) : Memref sig .tc .vmem S1x3584 .f32 := win0_1.stage (cfg0.slots t 1)
abbrev ms2 (t : Fin cfg0.N) : Memref sig .tc .vmem S1x1x512 .i32 := win0_2.stage (cfg0.slots t 2)
abbrev ms3 (t : Fin cfg0.N) : Memref sig .tc .vmem S48x1 .f32 := win0_3.stage (cfg0.slots t 3)
abbrev ms4 (t : Fin cfg0.N) : Memref sig .tc .vmem S1792x2688 .i8 := win0_4.stage (cfg0.slots t 4)
abbrev ms5 (t : Fin cfg0.N) : Memref sig .tc .vmem S112x2688 .bf16 := win0_5.stage (cfg0.slots t 5)
abbrev ms6 (t : Fin cfg0.N) : Memref sig .tc .vmem S1792x384 .i8 := win0_6.stage (cfg0.slots t 6)
abbrev ms7 (t : Fin cfg0.N) : Memref sig .tc .vmem S112x384 .bf16 := win0_7.stage (cfg0.slots t 7)
abbrev ms8 (t : Fin cfg0.N) : Memref sig .tc .vmem S1792x384 .i8 := win0_8.stage (cfg0.slots t 8)
abbrev ms9 (t : Fin cfg0.N) : Memref sig .tc .vmem S112x384 .bf16 := win0_9.stage (cfg0.slots t 9)
abbrev ms10 (t : Fin cfg0.N) : Memref sig .tc .vmem S1x2688x512 .bf16 := win0_10.stage (cfg0.slots t 10)
abbrev ms11 (t : Fin cfg0.N) : Memref sig .tc .vmem S1x384x512 .bf16 := win0_11.stage (cfg0.slots t 11)
abbrev ms12 (t : Fin cfg0.N) : Memref sig .tc .vmem S1x384x512 .bf16 := win0_12.stage (cfg0.slots t 12)
/-- Scratch buffer 0. -/
abbrev sc0 : Memref sig .tc .vmem S3456x3584 .bf16 := Memref.whole cc0_scratch0
/-- Scratch buffer 1. -/
abbrev sc1 : Memref sig .tc .vmem S2x512x3584 .bf16 := Memref.whole cc0_scratch1
/-- Scratch buffer 2. -/
abbrev sc2 : Memref sig .tc .vmem S48x512 .f32 := Memref.whole cc0_scratch2
/-- Scratch buffer 3. -/
abbrev sc3 : Memref sig .tc .vmem S48x512 .f32 := Memref.whole cc0_scratch3

/-- The invariant between points: the four scratch buffers at some contents, and the generator's register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Nothing is said of the three output windows. -/
def forgets : Fin 13 → Bool := fun w => decide (10 ≤ w.val)

/-- The proof data: the arrays as the region finds them, each input buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the input buffers, and that it finds it there. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare d)
    ∗ (∃ d, owns (c : Thread nD τ) (ms11 t) fullShare d)
    ∗ (∃ d, owns (c : Thread nD τ) (ms12 t) fullShare d))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms10 t) fullShare d)
    ∗ (∃ d, owns (c : Thread nD τ) (ms11 t) fullShare d)
    ∗ (∃ d, owns (c : Thread nD τ) (ms12 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h0 : t.val = 0
  · iapply (run_first c (grid0.coords t) _ _ _ _ _ _ _ _ _ _ _ _ _ _ _ _ _ _ _ _ _ _ _ _ _ _ _ _ _ _ _ _ _ _ ((hcond1 t).mpr h0) (fun h => ((hcond2 t).mp h) h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iapply (run_later c (grid0.coords t) _ _ _ _ _ _ _ _ _ _ _ _ _ _ _ _ _ _ _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

-- the run theorem's implicit arguments are found by unfolding plain definitions in a metavariable's type
set_option backward.isDefEq.respectTransparency.types false in
set_option maxHeartbeats 800000 in
/-- The run: it terminates, every input array and every buffer no line after the region writes is as the region found it,
    and every semaphore counter ends at zero. -/
theorem run_main : θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_forget (Q' := _) cfgs (dats m) (0 : Fin 1) launch0 defs₀ Variants.none forgets T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME: the program terminates without a fault, its nine argument arrays end unchanged and every semaphore counter
    ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePostR.arr_in h.1 c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩) (run_main m ρ)

end Cert.Kernel.FrameProof

end
-- ==== Proof.KernelIdeal.RunA.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody

@[expose] public section

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point: the weights are dequantized and the first block of rows normalized. Inputs are
    left as found; of the outputs and the scratch nothing is said. -/
theorem run_first (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole) (hc0 : k0_cond1 i = 1#1) (hc1 : ¬ k0_cond2 i = 1#1)
    (x0 : Vec F S1x512x3584 .bf16) (x1 : Vec F S1x3584 .f32) (x2 : Vec F S1x1x512 .i32) (x3 : Vec F S48x1 .f32) (x4 : Vec F S1792x2688 .i8) (x5 : Vec F S112x2688 .bf16) (x6 : Vec F S1792x384 .i8) (x7 : Vec F S112x384 .bf16) (x8 : Vec F S1792x384 .i8) (x9 : Vec F S112x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.FrameProof

end
-- ==== Proof.KernelIdeal.RunB.lean ====
module

public import proofs.«01_k».proof.Proof.KernelIdeal.RunA
public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody

@[expose] public section

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at every later grid point: one block of rows is normalized and the block before it is projected and
    stored. Inputs are left as found; of the outputs and the scratch nothing is said. -/
theorem run_later (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole) (hc0 : ¬ k0_cond1 i = 1#1) (hc1 : k0_cond2 i = 1#1)
    (x0 : Vec F S1x512x3584 .bf16) (x1 : Vec F S1x3584 .f32) (x2 : Vec F S1x1x512 .i32) (x3 : Vec F S48x1 .f32) (x4 : Vec F S1792x2688 .i8) (x5 : Vec F S112x2688 .bf16) (x6 : Vec F S1792x384 .i8) (x7 : Vec F S112x384 .bf16) (x8 : Vec F S1792x384 .i8) (x9 : Vec F S112x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.FrameProof

end
-- ==== Proof.KernelIdeal.Frame.lean ====
module

public import proofs.«01_k».proof.Proof.KernelIdeal.RunA
public import proofs.«01_k».proof.Proof.KernelIdeal.RunB
public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody

@[expose] public section

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region write. -/
def T0 : Finset (Ref sig .tc) := {main_v13, main_v14, main_v15, main_v16, main_v17, main_v18}
/-- Those lines write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.unary_writes, StableHlo.reshape_writes, Finset.mem_singleton] at hb; cases Proc.devRef_injective _ hb; decide

/-- The first branch is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second branch is taken at every later point. -/
theorem hcond2 : ∀ t : Fin cfg0.N, k0_cond2 (grid0.coords t) = 1#1 ↔ ¬ t.val = 0 :=
  (by decide +kernel : ∀ t : Fin grid0.N, k0_cond2 (grid0.coords t) = 1#1 ↔ ¬ t.val = 0)

/-- No input window is ever idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl

/-- Each window's staging memref at a point. -/
abbrev ms0 (t : Fin cfg0.N) : Memref sig .tc .vmem S1x512x3584 .bf16 := win0_0.stage (cfg0.slots t 0)
abbrev ms1 (t : Fin cfg0.N) : Memref sig .tc .vmem S1x3584 .f32 := win0_1.stage (cfg0.slots t 1)
abbrev ms2 (t : Fin cfg0.N) : Memref sig .tc .vmem S1x1x512 .i32 := win0_2.stage (cfg0.slots t 2)
abbrev ms3 (t : Fin cfg0.N) : Memref sig .tc .vmem S48x1 .f32 := win0_3.stage (cfg0.slots t 3)
abbrev ms4 (t : Fin cfg0.N) : Memref sig .tc .vmem S1792x2688 .i8 := win0_4.stage (cfg0.slots t 4)
abbrev ms5 (t : Fin cfg0.N) : Memref sig .tc .vmem S112x2688 .bf16 := win0_5.stage (cfg0.slots t 5)
abbrev ms6 (t : Fin cfg0.N) : Memref sig .tc .vmem S1792x384 .i8 := win0_6.stage (cfg0.slots t 6)
abbrev ms7 (t : Fin cfg0.N) : Memref sig .tc .vmem S112x384 .bf16 := win0_7.stage (cfg0.slots t 7)
abbrev ms8 (t : Fin cfg0.N) : Memref sig .tc .vmem S1792x384 .i8 := win0_8.stage (cfg0.slots t 8)
abbrev ms9 (t : Fin cfg0.N) : Memref sig .tc .vmem S112x384 .bf16 := win0_9.stage (cfg0.slots t 9)
abbrev ms10 (t : Fin cfg0.N) : Memref sig .tc .vmem S1x2688x512 .bf16 := win0_10.stage (cfg0.slots t 10)
abbrev ms11 (t : Fin cfg0.N) : Memref sig .tc .vmem S1x384x512 .bf16 := win0_11.stage (cfg0.slots t 11)
abbrev ms12 (t : Fin cfg0.N) : Memref sig .tc .vmem S1x384x512 .bf16 := win0_12.stage (cfg0.slots t 12)
/-- Scratch buffer 0. -/
abbrev sc0 : Memref sig .tc .vmem S3456x3584 .bf16 := Memref.whole cc0_scratch0
/-- Scratch buffer 1. -/
abbrev sc1 : Memref sig .tc .vmem S2x512x3584 .bf16 := Memref.whole cc0_scratch1
/-- Scratch buffer 2. -/
abbrev sc2 : Memref sig .tc .vmem S48x512 .f32 := Memref.whole cc0_scratch2
/-- Scratch buffer 3. -/
abbrev sc3 : Memref sig .tc .vmem S48x512 .f32 := Memref.whole cc0_scratch3

/-- The invariant between points: the four scratch buffers at some contents, and the generator's register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Nothing is said of the three output windows. -/
def forgets : Fin 13 → Bool := fun w => decide (10 ≤ w.val)

/-- The proof data: the arrays as the region finds them, each input buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the input buffers, and that it finds it there. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare d)
    ∗ (∃ d, owns (c : Thread nD τ) (ms11 t) fullShare d)
    ∗ (∃ d, owns (c : Thread nD τ) (ms12 t) fullShare d))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms10 t) fullShare d)
    ∗ (∃ d, owns (c : Thread nD τ) (ms11 t) fullShare d)
    ∗ (∃ d, owns (c : Thread nD τ) (ms12 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h0 : t.val = 0
  · iapply (run_first c (grid0.coords t) _ _ _ _ _ _ _ _ _ _ _ _ _ _ _ _ _ _ _ _ _ _ _ _ _ _ _ _ _ _ _ _ _ _ ((hcond1 t).mpr h0) (fun h => ((hcond2 t).mp h) h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iapply (run_later c (grid0.coords t) _ _ _ _ _ _ _ _ _ _ _ _ _ _ _ _ _ _ _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

-- the run theorem's implicit arguments are found by unfolding plain definitions in a metavariable's type
set_option backward.isDefEq.respectTransparency.types false in
set_option maxHeartbeats 800000 in
/-- The run: it terminates, every input array and every buffer no line after the region writes is as the region found it,
    and every semaphore counter ends at zero. -/
theorem run_main : θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_forget (Q' := _) cfgs (dats m) (0 : Fin 1) launch0 defs₀ Variants.none forgets T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME: the program terminates without a fault, its nine argument arrays end unchanged and every semaphore counter
    ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePostR.arr_in h.1 c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩) (run_main m ρ)

end Cert.KernelIdeal.FrameProof

end
-- ==== Proof.KernelIdeal.Tiles.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What is stored of one tile of 128 × 128 packed bytes under its 8 × 128 scales: both halves of each byte, dequantized,
    transposed, with the rows of each group of sixteen reordered. -/
def tile (p : Vec Ideal S128x128 .i8) (s : Vec Ideal S8x128 .bf16) : FVec Ideal S128x256 .bf16 :=
  k0_pay9 (k0_pay8 p s)

/-- Where tile `kt` of a trip is stored, and where its bytes and its scales are read, is the trip's own 128 rows (columns
    of the packed arrays) at the tile's columns (rows). -/
theorem off1 : ∀ k : Fin k0_t1_loop.trips, k0_off1 k = ![0, 128 * k.val] := by decide +kernel
theorem off2 : ∀ k : Fin k0_t1_loop.trips, k0_off2 k = ![0, 128 * k.val] := by decide +kernel
theorem off3 : ∀ k : Fin k0_t1_loop.trips, k0_off3 k = ![0 + 128 * k.val, 0] := by decide +kernel
theorem off4 : ∀ k : Fin k0_t1_loop.trips, k0_off4 k = ![128, 128 * k.val] := by decide +kernel
theorem off5 : ∀ k : Fin k0_t1_loop.trips, k0_off5 k = ![8, 128 * k.val] := by decide +kernel
theorem off6 : ∀ k : Fin k0_t1_loop.trips, k0_off6 k = ![0 + 128 * k.val, 256] := by decide +kernel
theorem off7 : ∀ k : Fin k0_t1_loop.trips, k0_off7 k = ![256, 128 * k.val] := by decide +kernel
theorem off8 : ∀ k : Fin k0_t1_loop.trips, k0_off8 k = ![16, 128 * k.val] := by decide +kernel
theorem off9 : ∀ k : Fin k0_t1_loop.trips, k0_off9 k = ![0 + 128 * k.val, 512] := by decide +kernel
theorem off10 : ∀ k : Fin k0_t1_loop.trips, k0_off10 k = ![384, 128 * k.val] := by decide +kernel
theorem off11 : ∀ k : Fin k0_t1_loop.trips, k0_off11 k = ![24, 128 * k.val] := by decide +kernel
theorem off12 : ∀ k : Fin k0_t1_loop.trips, k0_off12 k = ![0 + 128 * k.val, 768] := by decide +kernel
theorem off13 : ∀ k : Fin k0_t1_loop.trips, k0_off13 k = ![512, 128 * k.val] := by decide +kernel
theorem off14 : ∀ k : Fin k0_t1_loop.trips, k0_off14 k = ![32, 128 * k.val] := by decide +kernel
theorem off15 : ∀ k : Fin k0_t1_loop.trips, k0_off15 k = ![0 + 128 * k.val, 1024] := by decide +kernel
theorem off16 : ∀ k : Fin k0_t1_loop.trips, k0_off16 k = ![640, 128 * k.val] := by decide +kernel
theorem off17 : ∀ k : Fin k0_t1_loop.trips, k0_off17 k = ![40, 128 * k.val] := by decide +kernel
theorem off18 : ∀ k : Fin k0_t1_loop.trips, k0_off18 k = ![0 + 128 * k.val, 1280] := by decide +kernel
theorem off19 : ∀ k : Fin k0_t1_loop.trips, k0_off19 k = ![768, 128 * k.val] := by decide +kernel
theorem off20 : ∀ k : Fin k0_t1_loop.trips, k0_off20 k = ![48, 128 * k.val] := by decide +kernel
theorem off21 : ∀ k : Fin k0_t1_loop.trips, k0_off21 k = ![0 + 128 * k.val, 1536] := by decide +kernel
theorem off22 : ∀ k : Fin k0_t1_loop.trips, k0_off22 k = ![896, 128 * k.val] := by decide +kernel
theorem off23 : ∀ k : Fin k0_t1_loop.trips, k0_off23 k = ![56, 128 * k.val] := by decide +kernel
theorem off24 : ∀ k : Fin k0_t1_loop.trips, k0_off24 k = ![0 + 128 * k.val, 1792] := by decide +kernel
theorem off25 : ∀ k : Fin k0_t1_loop.trips, k0_off25 k = ![1024, 128 * k.val] := by decide +kernel
theorem off26 : ∀ k : Fin k0_t1_loop.trips, k0_off26 k = ![64, 128 * k.val] := by decide +kernel
theorem off27 : ∀ k : Fin k0_t1_loop.trips, k0_off27 k = ![0 + 128 * k.val, 2048] := by decide +kernel
theorem off28 : ∀ k : Fin k0_t1_loop.trips, k0_off28 k = ![1152, 128 * k.val] := by decide +kernel
theorem off29 : ∀ k : Fin k0_t1_loop.trips, k0_off29 k = ![72, 128 * k.val] := by decide +kernel
theorem off30 : ∀ k : Fin k0_t1_loop.trips, k0_off30 k = ![0 + 128 * k.val, 2304] := by decide +kernel
theorem off31 : ∀ k : Fin k0_t1_loop.trips, k0_off31 k = ![1280, 128 * k.val] := by decide +kernel
theorem off32 : ∀ k : Fin k0_t1_loop.trips, k0_off32 k = ![80, 128 * k.val] := by decide +kernel
theorem off33 : ∀ k : Fin k0_t1_loop.trips, k0_off33 k = ![0 + 128 * k.val, 2560] := by decide +kernel
theorem off34 : ∀ k : Fin k0_t1_loop.trips, k0_off34 k = ![1408, 128 * k.val] := by decide +kernel
theorem off35 : ∀ k : Fin k0_t1_loop.trips, k0_off35 k = ![88, 128 * k.val] := by decide +kernel
theorem off36 : ∀ k : Fin k0_t1_loop.trips, k0_off36 k = ![0 + 128 * k.val, 2816] := by decide +kernel
theorem off37 : ∀ k : Fin k0_t1_loop.trips, k0_off37 k = ![1536, 128 * k.val] := by decide +kernel
theorem off38 : ∀ k : Fin k0_t1_loop.trips, k0_off38 k = ![96, 128 * k.val] := by decide +kernel
theorem off39 : ∀ k : Fin k0_t1_loop.trips, k0_off39 k = ![0 + 128 * k.val, 3072] := by decide +kernel
theorem off40 : ∀ k : Fin k0_t1_loop.trips, k0_off40 k = ![1664, 128 * k.val] := by decide +kernel
theorem off41 : ∀ k : Fin k0_t1_loop.trips, k0_off41 k = ![104, 128 * k.val] := by decide +kernel
theorem off42 : ∀ k : Fin k0_t1_loop.trips, k0_off42 k = ![0 + 128 * k.val, 3328] := by decide +kernel
theorem off43 : ∀ k : Fin k0_t2_loop.trips, k0_off43 k = ![0, 128 * k.val] := by decide +kernel
theorem off44 : ∀ k : Fin k0_t2_loop.trips, k0_off44 k = ![0, 128 * k.val] := by decide +kernel
theorem off45 : ∀ k : Fin k0_t2_loop.trips, k0_off45 k = ![2688 + 128 * k.val, 0] := by decide +kernel
theorem off46 : ∀ k : Fin k0_t2_loop.trips, k0_off46 k = ![128, 128 * k.val] := by decide +kernel
theorem off47 : ∀ k : Fin k0_t2_loop.trips, k0_off47 k = ![8, 128 * k.val] := by decide +kernel
theorem off48 : ∀ k : Fin k0_t2_loop.trips, k0_off48 k = ![2688 + 128 * k.val, 256] := by decide +kernel
theorem off49 : ∀ k : Fin k0_t2_loop.trips, k0_off49 k = ![256, 128 * k.val] := by decide +kernel
theorem off50 : ∀ k : Fin k0_t2_loop.trips, k0_off50 k = ![16, 128 * k.val] := by decide +kernel
theorem off51 : ∀ k : Fin k0_t2_loop.trips, k0_off51 k = ![2688 + 128 * k.val, 512] := by decide +kernel
theorem off52 : ∀ k : Fin k0_t2_loop.trips, k0_off52 k = ![384, 128 * k.val] := by decide +kernel
theorem off53 : ∀ k : Fin k0_t2_loop.trips, k0_off53 k = ![24, 128 * k.val] := by decide +kernel
theorem off54 : ∀ k : Fin k0_t2_loop.trips, k0_off54 k = ![2688 + 128 * k.val, 768] := by decide +kernel
theorem off55 : ∀ k : Fin k0_t2_loop.trips, k0_off55 k = ![512, 128 * k.val] := by decide +kernel
theorem off56 : ∀ k : Fin k0_t2_loop.trips, k0_off56 k = ![32, 128 * k.val] := by decide +kernel
theorem off57 : ∀ k : Fin k0_t2_loop.trips, k0_off57 k = ![2688 + 128 * k.val, 1024] := by decide +kernel
theorem off58 : ∀ k : Fin k0_t2_loop.trips, k0_off58 k = ![640, 128 * k.val] := by decide +kernel
theorem off59 : ∀ k : Fin k0_t2_loop.trips, k0_off59 k = ![40, 128 * k.val] := by decide +kernel
theorem off60 : ∀ k : Fin k0_t2_loop.trips, k0_off60 k = ![2688 + 128 * k.val, 1280] := by decide +kernel
theorem off61 : ∀ k : Fin k0_t2_loop.trips, k0_off61 k = ![768, 128 * k.val] := by decide +kernel
theorem off62 : ∀ k : Fin k0_t2_loop.trips, k0_off62 k = ![48, 128 * k.val] := by decide +kernel
theorem off63 : ∀ k : Fin k0_t2_loop.trips, k0_off63 k = ![2688 + 128 * k.val, 1536] := by decide +kernel
theorem off64 : ∀ k : Fin k0_t2_loop.trips, k0_off64 k = ![896, 128 * k.val] := by decide +kernel
theorem off65 : ∀ k : Fin k0_t2_loop.trips, k0_off65 k = ![56, 128 * k.val] := by decide +kernel
theorem off66 : ∀ k : Fin k0_t2_loop.trips, k0_off66 k = ![2688 + 128 * k.val, 1792] := by decide +kernel
theorem off67 : ∀ k : Fin k0_t2_loop.trips, k0_off67 k = ![1024, 128 * k.val] := by decide +kernel
theorem off68 : ∀ k : Fin k0_t2_loop.trips, k0_off68 k = ![64, 128 * k.val] := by decide +kernel
theorem off69 : ∀ k : Fin k0_t2_loop.trips, k0_off69 k = ![2688 + 128 * k.val, 2048] := by decide +kernel
theorem off70 : ∀ k : Fin k0_t2_loop.trips, k0_off70 k = ![1152, 128 * k.val] := by decide +kernel
theorem off71 : ∀ k : Fin k0_t2_loop.trips, k0_off71 k = ![72, 128 * k.val] := by decide +kernel
theorem off72 : ∀ k : Fin k0_t2_loop.trips, k0_off72 k = ![2688 + 128 * k.val, 2304] := by decide +kernel
theorem off73 : ∀ k : Fin k0_t2_loop.trips, k0_off73 k = ![1280, 128 * k.val] := by decide +kernel
theorem off74 : ∀ k : Fin k0_t2_loop.trips, k0_off74 k = ![80, 128 * k.val] := by decide +kernel
theorem off75 : ∀ k : Fin k0_t2_loop.trips, k0_off75 k = ![2688 + 128 * k.val, 2560] := by decide +kernel
theorem off76 : ∀ k : Fin k0_t2_loop.trips, k0_off76 k = ![1408, 128 * k.val] := by decide +kernel
theorem off77 : ∀ k : Fin k0_t2_loop.trips, k0_off77 k = ![88, 128 * k.val] := by decide +kernel
theorem off78 : ∀ k : Fin k0_t2_loop.trips, k0_off78 k = ![2688 + 128 * k.val, 2816] := by decide +kernel
theorem off79 : ∀ k : Fin k0_t2_loop.trips, k0_off79 k = ![1536, 128 * k.val] := by decide +kernel
theorem off80 : ∀ k : Fin k0_t2_loop.trips, k0_off80 k = ![96, 128 * k.val] := by decide +kernel
theorem off81 : ∀ k : Fin k0_t2_loop.trips, k0_off81 k = ![2688 + 128 * k.val, 3072] := by decide +kernel
theorem off82 : ∀ k : Fin k0_t2_loop.trips, k0_off82 k = ![1664, 128 * k.val] := by decide +kernel
theorem off83 : ∀ k : Fin k0_t2_loop.trips, k0_off83 k = ![104, 128 * k.val] := by decide +kernel
theorem off84 : ∀ k : Fin k0_t2_loop.trips, k0_off84 k = ![2688 + 128 * k.val, 3328] := by decide +kernel
theorem off85 : ∀ k : Fin k0_t3_loop.trips, k0_off85 k = ![0, 128 * k.val] := by decide +kernel
theorem off86 : ∀ k : Fin k0_t3_loop.trips, k0_off86 k = ![0, 128 * k.val] := by decide +kernel
theorem off87 : ∀ k : Fin k0_t3_loop.trips, k0_off87 k = ![3072 + 128 * k.val, 0] := by decide +kernel
theorem off88 : ∀ k : Fin k0_t3_loop.trips, k0_off88 k = ![128, 128 * k.val] := by decide +kernel
theorem off89 : ∀ k : Fin k0_t3_loop.trips, k0_off89 k = ![8, 128 * k.val] := by decide +kernel
theorem off90 : ∀ k : Fin k0_t3_loop.trips, k0_off90 k = ![3072 + 128 * k.val, 256] := by decide +kernel
theorem off91 : ∀ k : Fin k0_t3_loop.trips, k0_off91 k = ![256, 128 * k.val] := by decide +kernel
theorem off92 : ∀ k : Fin k0_t3_loop.trips, k0_off92 k = ![16, 128 * k.val] := by decide +kernel
theorem off93 : ∀ k : Fin k0_t3_loop.trips, k0_off93 k = ![3072 + 128 * k.val, 512] := by decide +kernel
theorem off94 : ∀ k : Fin k0_t3_loop.trips, k0_off94 k = ![384, 128 * k.val] := by decide +kernel
theorem off95 : ∀ k : Fin k0_t3_loop.trips, k0_off95 k = ![24, 128 * k.val] := by decide +kernel
theorem off96 : ∀ k : Fin k0_t3_loop.trips, k0_off96 k = ![3072 + 128 * k.val, 768] := by decide +kernel
theorem off97 : ∀ k : Fin k0_t3_loop.trips, k0_off97 k = ![512, 128 * k.val] := by decide +kernel
theorem off98 : ∀ k : Fin k0_t3_loop.trips, k0_off98 k = ![32, 128 * k.val] := by decide +kernel
theorem off99 : ∀ k : Fin k0_t3_loop.trips, k0_off99 k = ![3072 + 128 * k.val, 1024] := by decide +kernel
theorem off100 : ∀ k : Fin k0_t3_loop.trips, k0_off100 k = ![640, 128 * k.val] := by decide +kernel
theorem off101 : ∀ k : Fin k0_t3_loop.trips, k0_off101 k = ![40, 128 * k.val] := by decide +kernel
theorem off102 : ∀ k : Fin k0_t3_loop.trips, k0_off102 k = ![3072 + 128 * k.val, 1280] := by decide +kernel
theorem off103 : ∀ k : Fin k0_t3_loop.trips, k0_off103 k = ![768, 128 * k.val] := by decide +kernel
theorem off104 : ∀ k : Fin k0_t3_loop.trips, k0_off104 k = ![48, 128 * k.val] := by decide +kernel
theorem off105 : ∀ k : Fin k0_t3_loop.trips, k0_off105 k = ![3072 + 128 * k.val, 1536] := by decide +kernel
theorem off106 : ∀ k : Fin k0_t3_loop.trips, k0_off106 k = ![896, 128 * k.val] := by decide +kernel
theorem off107 : ∀ k : Fin k0_t3_loop.trips, k0_off107 k = ![56, 128 * k.val] := by decide +kernel
theorem off108 : ∀ k : Fin k0_t3_loop.trips, k0_off108 k = ![3072 + 128 * k.val, 1792] := by decide +kernel
theorem off109 : ∀ k : Fin k0_t3_loop.trips, k0_off109 k = ![1024, 128 * k.val] := by decide +kernel
theorem off110 : ∀ k : Fin k0_t3_loop.trips, k0_off110 k = ![64, 128 * k.val] := by decide +kernel
theorem off111 : ∀ k : Fin k0_t3_loop.trips, k0_off111 k = ![3072 + 128 * k.val, 2048] := by decide +kernel
theorem off112 : ∀ k : Fin k0_t3_loop.trips, k0_off112 k = ![1152, 128 * k.val] := by decide +kernel
theorem off113 : ∀ k : Fin k0_t3_loop.trips, k0_off113 k = ![72, 128 * k.val] := by decide +kernel
theorem off114 : ∀ k : Fin k0_t3_loop.trips, k0_off114 k = ![3072 + 128 * k.val, 2304] := by decide +kernel
theorem off115 : ∀ k : Fin k0_t3_loop.trips, k0_off115 k = ![1280, 128 * k.val] := by decide +kernel
theorem off116 : ∀ k : Fin k0_t3_loop.trips, k0_off116 k = ![80, 128 * k.val] := by decide +kernel
theorem off117 : ∀ k : Fin k0_t3_loop.trips, k0_off117 k = ![3072 + 128 * k.val, 2560] := by decide +kernel
theorem off118 : ∀ k : Fin k0_t3_loop.trips, k0_off118 k = ![1408, 128 * k.val] := by decide +kernel
theorem off119 : ∀ k : Fin k0_t3_loop.trips, k0_off119 k = ![88, 128 * k.val] := by decide +kernel
theorem off120 : ∀ k : Fin k0_t3_loop.trips, k0_off120 k = ![3072 + 128 * k.val, 2816] := by decide +kernel
theorem off121 : ∀ k : Fin k0_t3_loop.trips, k0_off121 k = ![1536, 128 * k.val] := by decide +kernel
theorem off122 : ∀ k : Fin k0_t3_loop.trips, k0_off122 k = ![96, 128 * k.val] := by decide +kernel
theorem off123 : ∀ k : Fin k0_t3_loop.trips, k0_off123 k = ![3072 + 128 * k.val, 3072] := by decide +kernel
theorem off124 : ∀ k : Fin k0_t3_loop.trips, k0_off124 k = ![1664, 128 * k.val] := by decide +kernel
theorem off125 : ∀ k : Fin k0_t3_loop.trips, k0_off125 k = ![104, 128 * k.val] := by decide +kernel
theorem off126 : ∀ k : Fin k0_t3_loop.trips, k0_off126 k = ![3072 + 128 * k.val, 3328] := by decide +kernel

section
variable (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole)

/-- The fourteen stores of one trip of dequantization loop 1, last first. -/
theorem tripL1 (h1 : k0_cond1 i = 1#1) (X : BufTy.Contents (Elt Ideal) arg5.view.ty) (Y : BufTy.Contents (Elt Ideal) arg6.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k =
      [⟨Rect.unit (s := S3456x3584) (k0_off42 k) S128x256.size (k0_off42_inb i k h1),
        tile (View.readAt (Elt Ideal) arg5.view (Rect.unit (s := S1792x2688) (k0_off40 k) S128x128.size (k0_off40_inb i k h1)).toLoadRect X)
          (View.readAt (Elt Ideal) arg6.view (Rect.unit (s := S112x2688) (k0_off41 k) S8x128.size (k0_off41_inb i k h1)).toLoadRect Y)⟩,
      ⟨Rect.unit (s := S3456x3584) (k0_off39 k) S128x256.size (k0_off39_inb i k h1),
        tile (View.readAt (Elt Ideal) arg5.view (Rect.unit (s := S1792x2688) (k0_off37 k) S128x128.size (k0_off37_inb i k h1)).toLoadRect X)
          (View.readAt (Elt Ideal) arg6.view (Rect.unit (s := S112x2688) (k0_off38 k) S8x128.size (k0_off38_inb i k h1)).toLoadRect Y)⟩,
      ⟨Rect.unit (s := S3456x3584) (k0_off36 k) S128x256.size (k0_off36_inb i k h1),
        tile (View.readAt (Elt Ideal) arg5.view (Rect.unit (s := S1792x2688) (k0_off34 k) S128x128.size (k0_off34_inb i k h1)).toLoadRect X)
          (View.readAt (Elt Ideal) arg6.view (Rect.unit (s := S112x2688) (k0_off35 k) S8x128.size (k0_off35_inb i k h1)).toLoadRect Y)⟩,
      ⟨Rect.unit (s := S3456x3584) (k0_off33 k) S128x256.size (k0_off33_inb i k h1),
        tile (View.readAt (Elt Ideal) arg5.view (Rect.unit (s := S1792x2688) (k0_off31 k) S128x128.size (k0_off31_inb i k h1)).toLoadRect X)
          (View.readAt (Elt Ideal) arg6.view (Rect.unit (s := S112x2688) (k0_off32 k) S8x128.size (k0_off32_inb i k h1)).toLoadRect Y)⟩,
      ⟨Rect.unit (s := S3456x3584) (k0_off30 k) S128x256.size (k0_off30_inb i k h1),
        tile (View.readAt (Elt Ideal) arg5.view (Rect.unit (s := S1792x2688) (k0_off28 k) S128x128.size (k0_off28_inb i k h1)).toLoadRect X)
          (View.readAt (Elt Ideal) arg6.view (Rect.unit (s := S112x2688) (k0_off29 k) S8x128.size (k0_off29_inb i k h1)).toLoadRect Y)⟩,
      ⟨Rect.unit (s := S3456x3584) (k0_off27 k) S128x256.size (k0_off27_inb i k h1),
        tile (View.readAt (Elt Ideal) arg5.view (Rect.unit (s := S1792x2688) (k0_off25 k) S128x128.size (k0_off25_inb i k h1)).toLoadRect X)
          (View.readAt (Elt Ideal) arg6.view (Rect.unit (s := S112x2688) (k0_off26 k) S8x128.size (k0_off26_inb i k h1)).toLoadRect Y)⟩,
      ⟨Rect.unit (s := S3456x3584) (k0_off24 k) S128x256.size (k0_off24_inb i k h1),
        tile (View.readAt (Elt Ideal) arg5.view (Rect.unit (s := S1792x2688) (k0_off22 k) S128x128.size (k0_off22_inb i k h1)).toLoadRect X)
          (View.readAt (Elt Ideal) arg6.view (Rect.unit (s := S112x2688) (k0_off23 k) S8x128.size (k0_off23_inb i k h1)).toLoadRect Y)⟩,
      ⟨Rect.unit (s := S3456x3584) (k0_off21 k) S128x256.size (k0_off21_inb i k h1),
        tile (View.readAt (Elt Ideal) arg5.view (Rect.unit (s := S1792x2688) (k0_off19 k) S128x128.size (k0_off19_inb i k h1)).toLoadRect X)
          (View.readAt (Elt Ideal) arg6.view (Rect.unit (s := S112x2688) (k0_off20 k) S8x128.size (k0_off20_inb i k h1)).toLoadRect Y)⟩,
      ⟨Rect.unit (s := S3456x3584) (k0_off18 k) S128x256.size (k0_off18_inb i k h1),
        tile (View.readAt (Elt Ideal) arg5.view (Rect.unit (s := S1792x2688) (k0_off16 k) S128x128.size (k0_off16_inb i k h1)).toLoadRect X)
          (View.readAt (Elt Ideal) arg6.view (Rect.unit (s := S112x2688) (k0_off17 k) S8x128.size (k0_off17_inb i k h1)).toLoadRect Y)⟩,
      ⟨Rect.unit (s := S3456x3584) (k0_off15 k) S128x256.size (k0_off15_inb i k h1),
        tile (View.readAt (Elt Ideal) arg5.view (Rect.unit (s := S1792x2688) (k0_off13 k) S128x128.size (k0_off13_inb i k h1)).toLoadRect X)
          (View.readAt (Elt Ideal) arg6.view (Rect.unit (s := S112x2688) (k0_off14 k) S8x128.size (k0_off14_inb i k h1)).toLoadRect Y)⟩,
      ⟨Rect.unit (s := S3456x3584) (k0_off12 k) S128x256.size (k0_off12_inb i k h1),
        tile (View.readAt (Elt Ideal) arg5.view (Rect.unit (s := S1792x2688) (k0_off10 k) S128x128.size (k0_off10_inb i k h1)).toLoadRect X)
          (View.readAt (Elt Ideal) arg6.view (Rect.unit (s := S112x2688) (k0_off11 k) S8x128.size (k0_off11_inb i k h1)).toLoadRect Y)⟩,
      ⟨Rect.unit (s := S3456x3584) (k0_off9 k) S128x256.size (k0_off9_inb i k h1),
        tile (View.readAt (Elt Ideal) arg5.view (Rect.unit (s := S1792x2688) (k0_off7 k) S128x128.size (k0_off7_inb i k h1)).toLoadRect X)
          (View.readAt (Elt Ideal) arg6.view (Rect.unit (s := S112x2688) (k0_off8 k) S8x128.size (k0_off8_inb i k h1)).toLoadRect Y)⟩,
      ⟨Rect.unit (s := S3456x3584) (k0_off6 k) S128x256.size (k0_off6_inb i k h1),
        tile (View.readAt (Elt Ideal) arg5.view (Rect.unit (s := S1792x2688) (k0_off4 k) S128x128.size (k0_off4_inb i k h1)).toLoadRect X)
          (View.readAt (Elt Ideal) arg6.view (Rect.unit (s := S112x2688) (k0_off5 k) S8x128.size (k0_off5_inb i k h1)).toLoadRect Y)⟩,
      ⟨Rect.unit (s := S3456x3584) (k0_off3 k) S128x256.size (k0_off3_inb i k h1),
        tile (View.readAt (Elt Ideal) arg5.view (Rect.unit (s := S1792x2688) (k0_off1 k) S128x128.size (k0_off1_inb i k h1)).toLoadRect X)
          (View.readAt (Elt Ideal) arg6.view (Rect.unit (s := S112x2688) (k0_off2 k) S8x128.size (k0_off2_inb i k h1)).toLoadRect Y)⟩] := by
  unfold tripL_k0_t1 trip_k0_t1
  rfl

/-- The fourteen stores of one trip of dequantization loop 2, last first. -/
theorem tripL2 (h1 : k0_cond1 i = 1#1) (X : BufTy.Contents (Elt Ideal) arg7.view.ty) (Y : BufTy.Contents (Elt Ideal) arg8.view.ty) (k : Fin k0_t2_loop.trips) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k =
      [⟨Rect.unit (s := S3456x3584) (k0_off84 k) S128x256.size (k0_off84_inb i k h1),
        tile (View.readAt (Elt Ideal) arg7.view (Rect.unit (s := S1792x384) (k0_off82 k) S128x128.size (k0_off82_inb i k h1)).toLoadRect X)
          (View.readAt (Elt Ideal) arg8.view (Rect.unit (s := S112x384) (k0_off83 k) S8x128.size (k0_off83_inb i k h1)).toLoadRect Y)⟩,
      ⟨Rect.unit (s := S3456x3584) (k0_off81 k) S128x256.size (k0_off81_inb i k h1),
        tile (View.readAt (Elt Ideal) arg7.view (Rect.unit (s := S1792x384) (k0_off79 k) S128x128.size (k0_off79_inb i k h1)).toLoadRect X)
          (View.readAt (Elt Ideal) arg8.view (Rect.unit (s := S112x384) (k0_off80 k) S8x128.size (k0_off80_inb i k h1)).toLoadRect Y)⟩,
      ⟨Rect.unit (s := S3456x3584) (k0_off78 k) S128x256.size (k0_off78_inb i k h1),
        tile (View.readAt (Elt Ideal) arg7.view (Rect.unit (s := S1792x384) (k0_off76 k) S128x128.size (k0_off76_inb i k h1)).toLoadRect X)
          (View.readAt (Elt Ideal) arg8.view (Rect.unit (s := S112x384) (k0_off77 k) S8x128.size (k0_off77_inb i k h1)).toLoadRect Y)⟩,
      ⟨Rect.unit (s := S3456x3584) (k0_off75 k) S128x256.size (k0_off75_inb i k h1),
        tile (View.readAt (Elt Ideal) arg7.view (Rect.unit (s := S1792x384) (k0_off73 k) S128x128.size (k0_off73_inb i k h1)).toLoadRect X)
          (View.readAt (Elt Ideal) arg8.view (Rect.unit (s := S112x384) (k0_off74 k) S8x128.size (k0_off74_inb i k h1)).toLoadRect Y)⟩,
      ⟨Rect.unit (s := S3456x3584) (k0_off72 k) S128x256.size (k0_off72_inb i k h1),
        tile (View.readAt (Elt Ideal) arg7.view (Rect.unit (s := S1792x384) (k0_off70 k) S128x128.size (k0_off70_inb i k h1)).toLoadRect X)
          (View.readAt (Elt Ideal) arg8.view (Rect.unit (s := S112x384) (k0_off71 k) S8x128.size (k0_off71_inb i k h1)).toLoadRect Y)⟩,
      ⟨Rect.unit (s := S3456x3584) (k0_off69 k) S128x256.size (k0_off69_inb i k h1),
        tile (View.readAt (Elt Ideal) arg7.view (Rect.unit (s := S1792x384) (k0_off67 k) S128x128.size (k0_off67_inb i k h1)).toLoadRect X)
          (View.readAt (Elt Ideal) arg8.view (Rect.unit (s := S112x384) (k0_off68 k) S8x128.size (k0_off68_inb i k h1)).toLoadRect Y)⟩,
      ⟨Rect.unit (s := S3456x3584) (k0_off66 k) S128x256.size (k0_off66_inb i k h1),
        tile (View.readAt (Elt Ideal) arg7.view (Rect.unit (s := S1792x384) (k0_off64 k) S128x128.size (k0_off64_inb i k h1)).toLoadRect X)
          (View.readAt (Elt Ideal) arg8.view (Rect.unit (s := S112x384) (k0_off65 k) S8x128.size (k0_off65_inb i k h1)).toLoadRect Y)⟩,
      ⟨Rect.unit (s := S3456x3584) (k0_off63 k) S128x256.size (k0_off63_inb i k h1),
        tile (View.readAt (Elt Ideal) arg7.view (Rect.unit (s := S1792x384) (k0_off61 k) S128x128.size (k0_off61_inb i k h1)).toLoadRect X)
          (View.readAt (Elt Ideal) arg8.view (Rect.unit (s := S112x384) (k0_off62 k) S8x128.size (k0_off62_inb i k h1)).toLoadRect Y)⟩,
      ⟨Rect.unit (s := S3456x3584) (k0_off60 k) S128x256.size (k0_off60_inb i k h1),
        tile (View.readAt (Elt Ideal) arg7.view (Rect.unit (s := S1792x384) (k0_off58 k) S128x128.size (k0_off58_inb i k h1)).toLoadRect X)
          (View.readAt (Elt Ideal) arg8.view (Rect.unit (s := S112x384) (k0_off59 k) S8x128.size (k0_off59_inb i k h1)).toLoadRect Y)⟩,
      ⟨Rect.unit (s := S3456x3584) (k0_off57 k) S128x256.size (k0_off57_inb i k h1),
        tile (View.readAt (Elt Ideal) arg7.view (Rect.unit (s := S1792x384) (k0_off55 k) S128x128.size (k0_off55_inb i k h1)).toLoadRect X)
          (View.readAt (Elt Ideal) arg8.view (Rect.unit (s := S112x384) (k0_off56 k) S8x128.size (k0_off56_inb i k h1)).toLoadRect Y)⟩,
      ⟨Rect.unit (s := S3456x3584) (k0_off54 k) S128x256.size (k0_off54_inb i k h1),
        tile (View.readAt (Elt Ideal) arg7.view (Rect.unit (s := S1792x384) (k0_off52 k) S128x128.size (k0_off52_inb i k h1)).toLoadRect X)
          (View.readAt (Elt Ideal) arg8.view (Rect.unit (s := S112x384) (k0_off53 k) S8x128.size (k0_off53_inb i k h1)).toLoadRect Y)⟩,
      ⟨Rect.unit (s := S3456x3584) (k0_off51 k) S128x256.size (k0_off51_inb i k h1),
        tile (View.readAt (Elt Ideal) arg7.view (Rect.unit (s := S1792x384) (k0_off49 k) S128x128.size (k0_off49_inb i k h1)).toLoadRect X)
          (View.readAt (Elt Ideal) arg8.view (Rect.unit (s := S112x384) (k0_off50 k) S8x128.size (k0_off50_inb i k h1)).toLoadRect Y)⟩,
      ⟨Rect.unit (s := S3456x3584) (k0_off48 k) S128x256.size (k0_off48_inb i k h1),
        tile (View.readAt (Elt Ideal) arg7.view (Rect.unit (s := S1792x384) (k0_off46 k) S128x128.size (k0_off46_inb i k h1)).toLoadRect X)
          (View.readAt (Elt Ideal) arg8.view (Rect.unit (s := S112x384) (k0_off47 k) S8x128.size (k0_off47_inb i k h1)).toLoadRect Y)⟩,
      ⟨Rect.unit (s := S3456x3584) (k0_off45 k) S128x256.size (k0_off45_inb i k h1),
        tile (View.readAt (Elt Ideal) arg7.view (Rect.unit (s := S1792x384) (k0_off43 k) S128x128.size (k0_off43_inb i k h1)).toLoadRect X)
          (View.readAt (Elt Ideal) arg8.view (Rect.unit (s := S112x384) (k0_off44 k) S8x128.size (k0_off44_inb i k h1)).toLoadRect Y)⟩] := by
  unfold tripL_k0_t2 trip_k0_t2
  rfl

/-- The fourteen stores of one trip of dequantization loop 3, last first. -/
theorem tripL3 (h1 : k0_cond1 i = 1#1) (X : BufTy.Contents (Elt Ideal) arg9.view.ty) (Y : BufTy.Contents (Elt Ideal) arg10.view.ty) (k : Fin k0_t3_loop.trips) :
    tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k =
      [⟨Rect.unit (s := S3456x3584) (k0_off126 k) S128x256.size (k0_off126_inb i k h1),
        tile (View.readAt (Elt Ideal) arg9.view (Rect.unit (s := S1792x384) (k0_off124 k) S128x128.size (k0_off124_inb i k h1)).toLoadRect X)
          (View.readAt (Elt Ideal) arg10.view (Rect.unit (s := S112x384) (k0_off125 k) S8x128.size (k0_off125_inb i k h1)).toLoadRect Y)⟩,
      ⟨Rect.unit (s := S3456x3584) (k0_off123 k) S128x256.size (k0_off123_inb i k h1),
        tile (View.readAt (Elt Ideal) arg9.view (Rect.unit (s := S1792x384) (k0_off121 k) S128x128.size (k0_off121_inb i k h1)).toLoadRect X)
          (View.readAt (Elt Ideal) arg10.view (Rect.unit (s := S112x384) (k0_off122 k) S8x128.size (k0_off122_inb i k h1)).toLoadRect Y)⟩,
      ⟨Rect.unit (s := S3456x3584) (k0_off120 k) S128x256.size (k0_off120_inb i k h1),
        tile (View.readAt (Elt Ideal) arg9.view (Rect.unit (s := S1792x384) (k0_off118 k) S128x128.size (k0_off118_inb i k h1)).toLoadRect X)
          (View.readAt (Elt Ideal) arg10.view (Rect.unit (s := S112x384) (k0_off119 k) S8x128.size (k0_off119_inb i k h1)).toLoadRect Y)⟩,
      ⟨Rect.unit (s := S3456x3584) (k0_off117 k) S128x256.size (k0_off117_inb i k h1),
        tile (View.readAt (Elt Ideal) arg9.view (Rect.unit (s := S1792x384) (k0_off115 k) S128x128.size (k0_off115_inb i k h1)).toLoadRect X)
          (View.readAt (Elt Ideal) arg10.view (Rect.unit (s := S112x384) (k0_off116 k) S8x128.size (k0_off116_inb i k h1)).toLoadRect Y)⟩,
      ⟨Rect.unit (s := S3456x3584) (k0_off114 k) S128x256.size (k0_off114_inb i k h1),
        tile (View.readAt (Elt Ideal) arg9.view (Rect.unit (s := S1792x384) (k0_off112 k) S128x128.size (k0_off112_inb i k h1)).toLoadRect X)
          (View.readAt (Elt Ideal) arg10.view (Rect.unit (s := S112x384) (k0_off113 k) S8x128.size (k0_off113_inb i k h1)).toLoadRect Y)⟩,
      ⟨Rect.unit (s := S3456x3584) (k0_off111 k) S128x256.size (k0_off111_inb i k h1),
        tile (View.readAt (Elt Ideal) arg9.view (Rect.unit (s := S1792x384) (k0_off109 k) S128x128.size (k0_off109_inb i k h1)).toLoadRect X)
          (View.readAt (Elt Ideal) arg10.view (Rect.unit (s := S112x384) (k0_off110 k) S8x128.size (k0_off110_inb i k h1)).toLoadRect Y)⟩,
      ⟨Rect.unit (s := S3456x3584) (k0_off108 k) S128x256.size (k0_off108_inb i k h1),
        tile (View.readAt (Elt Ideal) arg9.view (Rect.unit (s := S1792x384) (k0_off106 k) S128x128.size (k0_off106_inb i k h1)).toLoadRect X)
          (View.readAt (Elt Ideal) arg10.view (Rect.unit (s := S112x384) (k0_off107 k) S8x128.size (k0_off107_inb i k h1)).toLoadRect Y)⟩,
      ⟨Rect.unit (s := S3456x3584) (k0_off105 k) S128x256.size (k0_off105_inb i k h1),
        tile (View.readAt (Elt Ideal) arg9.view (Rect.unit (s := S1792x384) (k0_off103 k) S128x128.size (k0_off103_inb i k h1)).toLoadRect X)
          (View.readAt (Elt Ideal) arg10.view (Rect.unit (s := S112x384) (k0_off104 k) S8x128.size (k0_off104_inb i k h1)).toLoadRect Y)⟩,
      ⟨Rect.unit (s := S3456x3584) (k0_off102 k) S128x256.size (k0_off102_inb i k h1),
        tile (View.readAt (Elt Ideal) arg9.view (Rect.unit (s := S1792x384) (k0_off100 k) S128x128.size (k0_off100_inb i k h1)).toLoadRect X)
          (View.readAt (Elt Ideal) arg10.view (Rect.unit (s := S112x384) (k0_off101 k) S8x128.size (k0_off101_inb i k h1)).toLoadRect Y)⟩,
      ⟨Rect.unit (s := S3456x3584) (k0_off99 k) S128x256.size (k0_off99_inb i k h1),
        tile (View.readAt (Elt Ideal) arg9.view (Rect.unit (s := S1792x384) (k0_off97 k) S128x128.size (k0_off97_inb i k h1)).toLoadRect X)
          (View.readAt (Elt Ideal) arg10.view (Rect.unit (s := S112x384) (k0_off98 k) S8x128.size (k0_off98_inb i k h1)).toLoadRect Y)⟩,
      ⟨Rect.unit (s := S3456x3584) (k0_off96 k) S128x256.size (k0_off96_inb i k h1),
        tile (View.readAt (Elt Ideal) arg9.view (Rect.unit (s := S1792x384) (k0_off94 k) S128x128.size (k0_off94_inb i k h1)).toLoadRect X)
          (View.readAt (Elt Ideal) arg10.view (Rect.unit (s := S112x384) (k0_off95 k) S8x128.size (k0_off95_inb i k h1)).toLoadRect Y)⟩,
      ⟨Rect.unit (s := S3456x3584) (k0_off93 k) S128x256.size (k0_off93_inb i k h1),
        tile (View.readAt (Elt Ideal) arg9.view (Rect.unit (s := S1792x384) (k0_off91 k) S128x128.size (k0_off91_inb i k h1)).toLoadRect X)
          (View.readAt (Elt Ideal) arg10.view (Rect.unit (s := S112x384) (k0_off92 k) S8x128.size (k0_off92_inb i k h1)).toLoadRect Y)⟩,
      ⟨Rect.unit (s := S3456x3584) (k0_off90 k) S128x256.size (k0_off90_inb i k h1),
        tile (View.readAt (Elt Ideal) arg9.view (Rect.unit (s := S1792x384) (k0_off88 k) S128x128.size (k0_off88_inb i k h1)).toLoadRect X)
          (View.readAt (Elt Ideal) arg10.view (Rect.unit (s := S112x384) (k0_off89 k) S8x128.size (k0_off89_inb i k h1)).toLoadRect Y)⟩,
      ⟨Rect.unit (s := S3456x3584) (k0_off87 k) S128x256.size (k0_off87_inb i k h1),
        tile (View.readAt (Elt Ideal) arg9.view (Rect.unit (s := S1792x384) (k0_off85 k) S128x128.size (k0_off85_inb i k h1)).toLoadRect X)
          (View.readAt (Elt Ideal) arg10.view (Rect.unit (s := S112x384) (k0_off86 k) S8x128.size (k0_off86_inb i k h1)).toLoadRect Y)⟩] := by
  unfold tripL_k0_t3 trip_k0_t3
  rfl

end

end Cert.KernelIdeal.Val

end
-- ==== Proof.KernelIdeal.Tile.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.BitcastFour
public import Idealize.ShloMosaic.Lib.Pointwise
public import proofs.«01_k».proof.Proof.KernelIdeal.Tiles

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The value of one half of a packed byte before its scale: nibble `h` (0 the low one, 1 the high one) less eight. -/
def deq (b : BitVec 8) (h : ℕ) : EReal := (((b.toNat / 16 ^ h % 16 : ℕ) : ℝ) : EReal) - Ideal.ofBits .bf16 0x4100#16

/-- The row of the packed matrix (counted within 128) that stands in row `r` of a stored tile. -/
def src (r : ℕ) : ℕ := 16 * (r / 16) + 2 * (r % 8) + r % 16 / 8

theorem src_lt {r n : ℕ} (h : r < 16 * n) : src r < 16 * n := by unfold src; omega

/-- The mask 0x0F0F0F0F at a bit of a byte of a word is the mask 0x0F at that bit. -/
theorem mask_bit : ∀ (m : Fin 4) (q : Fin 8), (252645135#32 : BitVec 32).getLsbD (8 * m.val + q.val) = (15#8 : BitVec 8).getLsbD q.val := by
  decide

/-- Words read as bytes again: a bit of the byte at row `a`. -/
theorem bytes_getLsbD (y : S32x128.Idx → BitVec 32) (h : S32x128.Bitcasts 32 S128x128 8) (a : Fin 128) (b : Fin 128) (q : ℕ) (hq : q < 8) :
    (bitcast S128x128 8 y h (ix2 a b)).getLsbD q = (y (ix2 ⟨a.val / 4, by omega⟩ b)).getLsbD (8 * (a.val % 4) + q) := by
  have hrow : S128x128.row (ix2 a b) = a.val := rfl
  rw [bitcast_getLsbD y h _ q hq (by decide)]
  have e1 : (S128x128.row (ix2 a b) * 8 + q) / 32 = a.val / 4 := by rw [hrow]; omega
  have e2 : (S128x128.row (ix2 a b) * 8 + q) % 32 = 8 * (a.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Masking the words masks every byte. -/
theorem nib_lo (p : S128x128.Idx → BitVec 8) (h : S128x128.Bitcasts 8 S32x128 32) (h' : S32x128.Bitcasts 32 S128x128 8) (j : S128x128.Idx) :
    bitcast S128x128 8 (andi (bitcast S32x128 32 p h) (broadcast S32x128 252645135#32)) h' j = p j &&& 15#8 := by
  idx_vars j
  apply BitVec.eq_of_getLsbD_eq
  intro q hq
  rw [bytes_getLsbD _ _ _ _ q hq]
  show (bitcast S32x128 32 p h (ix2 _ _) &&& 252645135#32).getLsbD _ = _
  rw [BitVec.getLsbD_and, BitVec.getLsbD_and, mask_bit ⟨j0.val % 4, by omega⟩ ⟨q, hq⟩]
  congr 1
  have := bitcast_8_32_getLsbD_ix2 p h ⟨j0.val / 4, by omega⟩ j1 (8 * (j0.val % 4) + q) (by omega) j0 (by simp only; omega)
  rw [show (8 * (j0.val % 4) + q) % 8 = q by omega] at this
  exact this

/-- Shifting the words by four and masking leaves the high half of every byte. -/
theorem nib_hi (p : S128x128.Idx → BitVec 8) (h : S128x128.Bitcasts 8 S32x128 32) (h' : S32x128.Bitcasts 32 S128x128 8) (j : S128x128.Idx) :
    bitcast S128x128 8 (andi (shrsi (bitcast S32x128 32 p h) (broadcast S32x128 4#32)) (broadcast S32x128 252645135#32)) h' j
      = (p j >>> 4) &&& 15#8 := by
  idx_vars j
  apply BitVec.eq_of_getLsbD_eq
  intro q hq
  rw [bytes_getLsbD _ _ _ _ q hq]
  show ((bitcast S32x128 32 p h (ix2 _ _)).sshiftRight 4 &&& 252645135#32).getLsbD _ = _
  rw [BitVec.getLsbD_and, BitVec.getLsbD_and, mask_bit ⟨j0.val % 4, by omega⟩ ⟨q, hq⟩]
  by_cases hq4 : q < 4
  · congr 1
    have := bitcast_8_32_getLsbD_ix2 p h ⟨j0.val / 4, by omega⟩ j1 (4 + (8 * (j0.val % 4) + q)) (by omega) j0 (by simp only; omega)
    rw [show (4 + (8 * (j0.val % 4) + q)) % 8 = 4 + q by omega] at this
    rw [BitVec.getLsbD_sshiftRight, BitVec.getLsbD_ushiftRight, if_pos (by omega)]
    simp only [show ¬ 32 ≤ 8 * (j0.val % 4) + q by omega, decide_false, Bool.not_false, Bool.true_and]
    exact this
  · have : (15#8 : BitVec 8).getLsbD q = false := by
      have h8 : q = 4 ∨ q = 5 ∨ q = 6 ∨ q = 7 := by omega
      rcases h8 with rfl | rfl | rfl | rfl <;> rfl
    simp only [this, Bool.and_false]

theorem deq_lo (b : BitVec 8) : (FloatOps.sitofp .bf16 (b &&& 15#8) : Ideal .bf16) - Ideal.ofBits .bf16 0x4100#16 = deq b 0 := by
  have : ∀ b : BitVec 8, (b &&& 15#8).toInt = ((b.toNat / 16 ^ 0 % 16 : ℕ) : ℤ) := by decide +kernel
  show ((((b &&& 15#8).toInt : ℝ)) : EReal) - _ = _
  rw [this, deq]
  norm_cast

theorem deq_shift (b : BitVec 8) : deq (b >>> 4) 0 = deq b 1 := by
  have : ∀ b : BitVec 8, (b >>> 4).toNat / 16 ^ 0 % 16 = b.toNat / 16 ^ 1 % 16 := by decide +kernel
  unfold deq
  rw [this]

/-- A stored tile, element by element. -/
theorem tile_apply (p : Vec Ideal S128x128 .i8) (s : Vec Ideal S8x128 .bf16) (r : Fin 128) (cc : Fin 256) :
    tile p s (ix2 r cc)
      = deq (p (ix2 ⟨16 * (cc.val / 32) + cc.val % 16, by omega⟩ ⟨src r.val, src_lt (n := 8) (by omega)⟩)) (cc.val % 32 / 16)
        * s (ix2 ⟨cc.val / 32, by omega⟩ ⟨src r.val, src_lt (n := 8) (by omega)⟩) := by
  unfold tile
  pointwise [k0_pay9, k0_pay8]
  simp only [nib_lo, nib_hi]
  have hr : 2 * (r.val / 16 * 8 + r.val % 16) = src r.val ∨ ¬ r.val % 16 < 8 := by unfold src; omega
  have hr' : 2 * (r.val / 16 * 8 + (r.val % 16 - 8)) + 1 = src r.val ∨ r.val % 16 < 8 := by unfold src; omega
  have hc : cc.val / 32 * 16 + cc.val % 32 = 16 * (cc.val / 32) + cc.val % 16 ∨ ¬ cc.val % 32 < 16 := by omega
  have hc' : cc.val / 32 * 16 + (cc.val % 32 - 16) = 16 * (cc.val / 32) + cc.val % 16 ∨ cc.val % 32 < 16 := by omega
  simp only [deq_lo, deq_shift]
  by_cases h1 : r.val % 16 < 8 <;> by_cases h2 : cc.val % 32 < 16
  · simp only [h1, h2, dif_pos, hr.resolve_right (not_not.2 h1), hc.resolve_right (not_not.2 h2), show cc.val % 32 / 16 = 0 by omega]
  · simp only [h1, h2, dif_pos, dif_neg, not_false_eq_true, hr.resolve_right (not_not.2 h1), hc'.resolve_right h2, show cc.val % 32 / 16 = 1 by omega]
  · simp only [h1, h2, dif_pos, dif_neg, not_false_eq_true, hr'.resolve_right h1, hc.resolve_right (not_not.2 h2), show cc.val % 32 / 16 = 0 by omega]
  · simp only [h1, h2, dif_neg, not_false_eq_true, hr'.resolve_right h1, hc'.resolve_right h2, show cc.val % 32 / 16 = 1 by omega]

end Cert.KernelIdeal.Val

end
-- ==== Proof.KernelIdeal.Weights.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.BitcastFour
public import Idealize.ShloMosaic.Lib.Pointwise
public import proofs.«01_k».proof.Proof.KernelIdeal.Tile

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A list of pieces built trip by trip holds what its trips hold. -/
theorem mem_trips {α : Type*} {n : ℕ} (trip : Fin n → List α) (pb : ℕ → List α) (h0 : pb 0 = [])
    (hs : ∀ k : Fin n, pb (k.val + 1) = trip k ++ pb k.val) (p : α) : p ∈ pb n ↔ ∃ k, p ∈ trip k := by
  have key : ∀ m, m ≤ n → (p ∈ pb m ↔ ∃ k : Fin n, k.val < m ∧ p ∈ trip k) := by
    intro m
    induction m with
    | zero => intro _; rw [h0]; simp
    | succ m ih =>
      intro hm
      rw [hs ⟨m, hm⟩, List.mem_append, ih (by omega)]
      constructor
      · rintro (h | ⟨k, hk, h⟩)
        · exact ⟨⟨m, hm⟩, Nat.lt_succ_self m, h⟩
        · exact ⟨k, by omega, h⟩
      · rintro ⟨k, hk, h⟩
        by_cases e : k.val = m
        · obtain rfl : k = ⟨m, hm⟩ := Fin.ext e
          exact .inl h
        · exact .inr ⟨k, by omega, h⟩
  rw [key n le_rfl]
  exact ⟨fun ⟨k, _, h⟩ => ⟨k, h⟩, fun ⟨k, h⟩ => ⟨k, k.isLt, h⟩⟩

/-- The dequantized weight of output channel `q` at column `k`: column `k` is half `k % 32 / 16` of byte row
    `16 (k / 32) + k % 16`, under the scale of group `k / 32`. -/
def wval {n : ℕ} (P : (⟨2, ![1792, n]⟩ : Shape).Idx → BitVec 8) (S : (⟨2, ![112, n]⟩ : Shape).Idx → EReal) (q : Fin n) (k : Fin 3584) : EReal :=
  deq (P (ix2 ⟨16 * (k.val / 32) + k.val % 16, by omega⟩ q)) (k.val % 32 / 16) * S (ix2 ⟨k.val / 32, by omega⟩ q)

/-- The dequantized weights as they stand in the scratch array: the channels of the three matrices below one another,
    each group of sixteen reordered. -/
def wspec (P1 : S1792x2688.Idx → BitVec 8) (S1 : S112x2688.Idx → EReal) (P2 : S1792x384.Idx → BitVec 8) (S2 : S112x384.Idx → EReal)
    (P3 : S1792x384.Idx → BitVec 8) (S3 : S112x384.Idx → EReal) (r : Fin 3456) (k : Fin 3584) : EReal :=
  if h : r.val < 2688 then wval P1 S1 ⟨src r.val, src_lt (n := 168) h⟩ k
  else if h : r.val < 3072 then wval P2 S2 ⟨src (r.val - 2688), src_lt (n := 24) (by omega)⟩ k
  else wval P3 S3 ⟨src (r.val - 3072), src_lt (n := 24) (by omega)⟩ k

theorem src_add (k r : ℕ) : src (128 * k + r) = 128 * k + src r := by unfold src; omega

/-- A stored tile is the tile's part of the array of dequantized weights. -/
theorem tile_piece {n base : ℕ} (P : (⟨2, ![1792, n]⟩ : Shape).Idx → BitVec 8) (S : (⟨2, ![112, n]⟩ : Shape).Idx → EReal) (G : S3456x3584.Idx → EReal)
    (hn : n % 128 = 0)
    (hG : ∀ (a : ℕ) (h : base + a < 3456) (ha : a < n) (hs : src a < n) (k : Fin 3584), G (ix2 ⟨base + a, h⟩ k) = wval P S ⟨src a, hs⟩ k)
    (kt k : ℕ) {o1 o2 o3 : Fin 2 → ℕ}
    (e1 : o1 = ![128 * kt, 128 * k]) (e2 : o2 = ![8 * kt, 128 * k]) (e3 : o3 = ![base + 128 * k, 256 * kt])
    (b1 : ∀ a, o1 a + S128x128.size a ≤ (⟨2, ![1792, n]⟩ : Shape).size a) (b2 : ∀ a, o2 a + S8x128.size a ≤ (⟨2, ![112, n]⟩ : Shape).size a)
    (b3 : ∀ a, o3 a + S128x256.size a ≤ S3456x3584.size a) (x : S128x256.Idx) :
    tile (fun y => P ((Rect.unit (s := ⟨2, ![1792, n]⟩) o1 S128x128.size b1).toLoadRect.idx y))
        (fun y => S ((Rect.unit (s := ⟨2, ![112, n]⟩) o2 S8x128.size b2).toLoadRect.idx y)) x
      = G ((Rect.unit (s := S3456x3584) o3 S128x256.size b3).emb x) := by
  subst e1 e2 e3
  idx_vars x
  rw [tile_apply]
  have c3 : base + 128 * k + 128 ≤ 3456 := b3 0
  have c3' : 256 * kt + 256 ≤ 3584 := b3 1
  have c1 : 128 * k + 128 ≤ n := b1 1
  have hs : src (128 * k + x0.val) < n := by rw [src_add]; have := src_lt (n := 8) (r := x0.val) (by omega); omega
  have hG' := hG (128 * k + x0.val) (by omega) (by omega) hs ⟨256 * kt + x1.val, by omega⟩
  have eG : (Rect.unit (s := S3456x3584) ![base + 128 * k, 256 * kt] S128x256.size b3).emb (ix2 x0 x1)
      = ix2 ⟨base + (128 * k + x0.val), by omega⟩ ⟨256 * kt + x1.val, by omega⟩ := by
    funext a
    match a with
    | ⟨0, _⟩ => exact Fin.ext (by show base + 128 * k + 1 * x0.val = base + (128 * k + x0.val); omega)
    | ⟨1, _⟩ => exact Fin.ext (by show 256 * kt + 1 * x1.val = 256 * kt + x1.val; omega)
  rw [eG, hG', wval]
  have f1 : (256 * kt + x1.val) % 32 / 16 = x1.val % 32 / 16 := by omega
  have i1 : (Rect.unit (s := ⟨2, ![1792, n]⟩) ![128 * kt, 128 * k] S128x128.size b1).toLoadRect.idx
        (ix2 ⟨16 * (x1.val / 32) + x1.val % 16, by omega⟩ ⟨src x0.val, src_lt (n := 8) (by omega)⟩)
      = ix2 ⟨16 * ((256 * kt + x1.val) / 32) + (256 * kt + x1.val) % 16, by omega⟩ ⟨src (128 * k + x0.val), hs⟩ := by
    funext a
    match a with
    | ⟨0, _⟩ => exact Fin.ext (by show 128 * kt + 1 * (16 * (x1.val / 32) + x1.val % 16) = _; show _ = 16 * ((256 * kt + x1.val) / 32) + (256 * kt + x1.val) % 16; omega)
    | ⟨1, _⟩ => exact Fin.ext (by show 128 * k + 1 * src x0.val = src (128 * k + x0.val); rw [src_add]; omega)
  have i2 : (Rect.unit (s := ⟨2, ![112, n]⟩) ![8 * kt, 128 * k] S8x128.size b2).toLoadRect.idx
        (ix2 ⟨x1.val / 32, by omega⟩ ⟨src x0.val, src_lt (n := 8) (by omega)⟩)
      = ix2 ⟨(256 * kt + x1.val) / 32, by omega⟩ ⟨src (128 * k + x0.val), hs⟩ := by
    funext a
    match a with
    | ⟨0, _⟩ => exact Fin.ext (by show 8 * kt + 1 * (x1.val / 32) = (256 * kt + x1.val) / 32; omega)
    | ⟨1, _⟩ => exact Fin.ext (by show 128 * k + 1 * src x0.val = src (128 * k + x0.val); rw [src_add]; omega)
  simp only [f1]
  exact congrArg₂ (fun a b : EReal => a * b) (congrArg (fun b => deq b (x1.val % 32 / 16)) (congrArg P i1)) (congrArg S i2)

/-- Where a tile stands. -/
theorem mem_tile {b kt k : ℕ} {o3 : Fin 2 → ℕ} (e3 : o3 = ![b + 128 * k, 256 * kt]) (b3 : ∀ a, o3 a + S128x256.size a ≤ S3456x3584.size a)
    (r : Fin 3456) (l : Fin 3584) (hr : b ≤ r.val) (hk : (r.val - b) / 128 = k) (hl : l.val / 256 = kt) :
    (ix2 r l : S3456x3584.Idx) ∈ (Rect.unit (s := S3456x3584) o3 S128x256.size b3).set := by
  subst e3
  refine Rect.mem_set_unit.2 fun a => ?_
  match a with
  | ⟨0, _⟩ => exact ⟨by show b + 128 * k ≤ r.val; omega, by show r.val < b + 128 * k + 128; omega⟩
  | ⟨1, _⟩ => exact ⟨by show 256 * kt ≤ l.val; omega, by show l.val < 256 * kt + 256; omega⟩

section
variable (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole)

/-- Every store of dequantization loop 1 stores its part of the array of dequantized weights. -/
theorem good1 (h1 : k0_cond1 i = 1#1) (X : BufTy.Contents (Elt Ideal) arg5.view.ty) (Y : BufTy.Contents (Elt Ideal) arg6.view.ty) (G : S3456x3584.Idx → EReal)
    (hG : ∀ (a : ℕ) (h : 0 + a < 3456) (ha : a < 2688) (hs : src a < 2688) (k : Fin 3584),
      G (ix2 ⟨0 + a, h⟩ k) = wval (n := 2688) (arg5.view.read (Elt Ideal) X) (arg6.view.read (Elt Ideal) Y) ⟨src a, hs⟩ k)
    (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k, ∀ x, p.2 x = G (p.1.emb x) := by
  rw [tripL1]
  simp only [List.forall_mem_cons]
  exact ⟨
    fun x => tile_piece (arg5.view.read (Elt Ideal) X) (arg6.view.read (Elt Ideal) Y) G (by decide) hG 13 k.val (off40 k) (off41 k) (off42 k)
      (k0_off40_inb i k h1) (k0_off41_inb i k h1) (k0_off42_inb i k h1) x,
    fun x => tile_piece (arg5.view.read (Elt Ideal) X) (arg6.view.read (Elt Ideal) Y) G (by decide) hG 12 k.val (off37 k) (off38 k) (off39 k)
      (k0_off37_inb i k h1) (k0_off38_inb i k h1) (k0_off39_inb i k h1) x,
    fun x => tile_piece (arg5.view.read (Elt Ideal) X) (arg6.view.read (Elt Ideal) Y) G (by decide) hG 11 k.val (off34 k) (off35 k) (off36 k)
      (k0_off34_inb i k h1) (k0_off35_inb i k h1) (k0_off36_inb i k h1) x,
    fun x => tile_piece (arg5.view.read (Elt Ideal) X) (arg6.view.read (Elt Ideal) Y) G (by decide) hG 10 k.val (off31 k) (off32 k) (off33 k)
      (k0_off31_inb i k h1) (k0_off32_inb i k h1) (k0_off33_inb i k h1) x,
    fun x => tile_piece (arg5.view.read (Elt Ideal) X) (arg6.view.read (Elt Ideal) Y) G (by decide) hG 9 k.val (off28 k) (off29 k) (off30 k)
      (k0_off28_inb i k h1) (k0_off29_inb i k h1) (k0_off30_inb i k h1) x,
    fun x => tile_piece (arg5.view.read (Elt Ideal) X) (arg6.view.read (Elt Ideal) Y) G (by decide) hG 8 k.val (off25 k) (off26 k) (off27 k)
      (k0_off25_inb i k h1) (k0_off26_inb i k h1) (k0_off27_inb i k h1) x,
    fun x => tile_piece (arg5.view.read (Elt Ideal) X) (arg6.view.read (Elt Ideal) Y) G (by decide) hG 7 k.val (off22 k) (off23 k) (off24 k)
      (k0_off22_inb i k h1) (k0_off23_inb i k h1) (k0_off24_inb i k h1) x,
    fun x => tile_piece (arg5.view.read (Elt Ideal) X) (arg6.view.read (Elt Ideal) Y) G (by decide) hG 6 k.val (off19 k) (off20 k) (off21 k)
      (k0_off19_inb i k h1) (k0_off20_inb i k h1) (k0_off21_inb i k h1) x,
    fun x => tile_piece (arg5.view.read (Elt Ideal) X) (arg6.view.read (Elt Ideal) Y) G (by decide) hG 5 k.val (off16 k) (off17 k) (off18 k)
      (k0_off16_inb i k h1) (k0_off17_inb i k h1) (k0_off18_inb i k h1) x,
    fun x => tile_piece (arg5.view.read (Elt Ideal) X) (arg6.view.read (Elt Ideal) Y) G (by decide) hG 4 k.val (off13 k) (off14 k) (off15 k)
      (k0_off13_inb i k h1) (k0_off14_inb i k h1) (k0_off15_inb i k h1) x,
    fun x => tile_piece (arg5.view.read (Elt Ideal) X) (arg6.view.read (Elt Ideal) Y) G (by decide) hG 3 k.val (off10 k) (off11 k) (off12 k)
      (k0_off10_inb i k h1) (k0_off11_inb i k h1) (k0_off12_inb i k h1) x,
    fun x => tile_piece (arg5.view.read (Elt Ideal) X) (arg6.view.read (Elt Ideal) Y) G (by decide) hG 2 k.val (off7 k) (off8 k) (off9 k)
      (k0_off7_inb i k h1) (k0_off8_inb i k h1) (k0_off9_inb i k h1) x,
    fun x => tile_piece (arg5.view.read (Elt Ideal) X) (arg6.view.read (Elt Ideal) Y) G (by decide) hG 1 k.val (off4 k) (off5 k) (off6 k)
      (k0_off4_inb i k h1) (k0_off5_inb i k h1) (k0_off6_inb i k h1) x,
    fun x => tile_piece (arg5.view.read (Elt Ideal) X) (arg6.view.read (Elt Ideal) Y) G (by decide) hG 0 k.val (off1 k) (off2 k) (off3 k)
      (k0_off1_inb i k h1) (k0_off2_inb i k h1) (k0_off3_inb i k h1) x,
    fun _ h => absurd h List.not_mem_nil⟩

/-- The stores of dequantization loop 1 cover its rows. -/
theorem cover1 (h1 : k0_cond1 i = 1#1) (X : BufTy.Contents (Elt Ideal) arg5.view.ty) (Y : BufTy.Contents (Elt Ideal) arg6.view.ty) (r : Fin 3456) (l : Fin 3584)
    (hr : 0 ≤ r.val) (hr' : r.val < 2688) :
    ∃ k, ∃ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k, (ix2 r l : S3456x3584.Idx) ∈ p.1.set := by
  refine ⟨⟨(r.val - 0) / 128, by show _ < 21; omega⟩, ?_⟩
  rw [tripL1]
  have hl : l.val / 256 = 0 ∨ l.val / 256 = 1 ∨ l.val / 256 = 2 ∨ l.val / 256 = 3 ∨ l.val / 256 = 4 ∨ l.val / 256 = 5 ∨ l.val / 256 = 6 ∨ l.val / 256 = 7 ∨ l.val / 256 = 8 ∨ l.val / 256 = 9 ∨ l.val / 256 = 10 ∨ l.val / 256 = 11 ∨ l.val / 256 = 12 ∨ l.val / 256 = 13 := by omega
  rcases hl with hl | hl | hl | hl | hl | hl | hl | hl | hl | hl | hl | hl | hl | hl
  · exact ⟨_, .tail _ (.tail _ (.tail _ (.tail _ (.tail _ (.tail _ (.tail _ (.tail _ (.tail _ (.tail _ (.tail _ (.tail _ (.tail _ (.head _))))))))))))), mem_tile (b := 0) (off3 _) (k0_off3_inb i _ h1) r l hr rfl hl⟩
  · exact ⟨_, .tail _ (.tail _ (.tail _ (.tail _ (.tail _ (.tail _ (.tail _ (.tail _ (.tail _ (.tail _ (.tail _ (.tail _ (.head _)))))))))))), mem_tile (b := 0) (off6 _) (k0_off6_inb i _ h1) r l hr rfl hl⟩
  · exact ⟨_, .tail _ (.tail _ (.tail _ (.tail _ (.tail _ (.tail _ (.tail _ (.tail _ (.tail _ (.tail _ (.tail _ (.head _))))))))))), mem_tile (b := 0) (off9 _) (k0_off9_inb i _ h1) r l hr rfl hl⟩
  · exact ⟨_, .tail _ (.tail _ (.tail _ (.tail _ (.tail _ (.tail _ (.tail _ (.tail _ (.tail _ (.tail _ (.head _)))))))))), mem_tile (b := 0) (off12 _) (k0_off12_inb i _ h1) r l hr rfl hl⟩
  · exact ⟨_, .tail _ (.tail _ (.tail _ (.tail _ (.tail _ (.tail _ (.tail _ (.tail _ (.tail _ (.head _))))))))), mem_tile (b := 0) (off15 _) (k0_off15_inb i _ h1) r l hr rfl hl⟩
  · exact ⟨_, .tail _ (.tail _ (.tail _ (.tail _ (.tail _ (.tail _ (.tail _ (.tail _ (.head _)))))))), mem_tile (b := 0) (off18 _) (k0_off18_inb i _ h1) r l hr rfl hl⟩
  · exact ⟨_, .tail _ (.tail _ (.tail _ (.tail _ (.tail _ (.tail _ (.tail _ (.head _))))))), mem_tile (b := 0) (off21 _) (k0_off21_inb i _ h1) r l hr rfl hl⟩
  · exact ⟨_, .tail _ (.tail _ (.tail _ (.tail _ (.tail _ (.tail _ (.head _)))))), mem_tile (b := 0) (off24 _) (k0_off24_inb i _ h1) r l hr rfl hl⟩
  · exact ⟨_, .tail _ (.tail _ (.tail _ (.tail _ (.tail _ (.head _))))), mem_tile (b := 0) (off27 _) (k0_off27_inb i _ h1) r l hr rfl hl⟩
  · exact ⟨_, .tail _ (.tail _ (.tail _ (.tail _ (.head _)))), mem_tile (b := 0) (off30 _) (k0_off30_inb i _ h1) r l hr rfl hl⟩
  · exact ⟨_, .tail _ (.tail _ (.tail _ (.head _))), mem_tile (b := 0) (off33 _) (k0_off33_inb i _ h1) r l hr rfl hl⟩
  · exact ⟨_, .tail _ (.tail _ (.head _)), mem_tile (b := 0) (off36 _) (k0_off36_inb i _ h1) r l hr rfl hl⟩
  · exact ⟨_, .tail _ (.head _), mem_tile (b := 0) (off39 _) (k0_off39_inb i _ h1) r l hr rfl hl⟩
  · exact ⟨_, .head _, mem_tile (b := 0) (off42 _) (k0_off42_inb i _ h1) r l hr rfl hl⟩

theorem mem1 (h1 : k0_cond1 i = 1#1) (X : BufTy.Contents (Elt Ideal) arg5.view.ty) (Y : BufTy.Contents (Elt Ideal) arg6.view.ty) (p) :
    p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k0_t1_loop.trips
      ↔ ∃ k, p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k :=
  mem_trips _ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y) (by rw [pb_k0_t1.eq_1])
    (fun k => pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k) p

/-- Every store of dequantization loop 2 stores its part of the array of dequantized weights. -/
theorem good2 (h1 : k0_cond1 i = 1#1) (X : BufTy.Contents (Elt Ideal) arg7.view.ty) (Y : BufTy.Contents (Elt Ideal) arg8.view.ty) (G : S3456x3584.Idx → EReal)
    (hG : ∀ (a : ℕ) (h : 2688 + a < 3456) (ha : a < 384) (hs : src a < 384) (k : Fin 3584),
      G (ix2 ⟨2688 + a, h⟩ k) = wval (n := 384) (arg7.view.read (Elt Ideal) X) (arg8.view.read (Elt Ideal) Y) ⟨src a, hs⟩ k)
    (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k, ∀ x, p.2 x = G (p.1.emb x) := by
  rw [tripL2]
  simp only [List.forall_mem_cons]
  exact ⟨
    fun x => tile_piece (arg7.view.read (Elt Ideal) X) (arg8.view.read (Elt Ideal) Y) G (by decide) hG 13 k.val (off82 k) (off83 k) (off84 k)
      (k0_off82_inb i k h1) (k0_off83_inb i k h1) (k0_off84_inb i k h1) x,
    fun x => tile_piece (arg7.view.read (Elt Ideal) X) (arg8.view.read (Elt Ideal) Y) G (by decide) hG 12 k.val (off79 k) (off80 k) (off81 k)
      (k0_off79_inb i k h1) (k0_off80_inb i k h1) (k0_off81_inb i k h1) x,
    fun x => tile_piece (arg7.view.read (Elt Ideal) X) (arg8.view.read (Elt Ideal) Y) G (by decide) hG 11 k.val (off76 k) (off77 k) (off78 k)
      (k0_off76_inb i k h1) (k0_off77_inb i k h1) (k0_off78_inb i k h1) x,
    fun x => tile_piece (arg7.view.read (Elt Ideal) X) (arg8.view.read (Elt Ideal) Y) G (by decide) hG 10 k.val (off73 k) (off74 k) (off75 k)
      (k0_off73_inb i k h1) (k0_off74_inb i k h1) (k0_off75_inb i k h1) x,
    fun x => tile_piece (arg7.view.read (Elt Ideal) X) (arg8.view.read (Elt Ideal) Y) G (by decide) hG 9 k.val (off70 k) (off71 k) (off72 k)
      (k0_off70_inb i k h1) (k0_off71_inb i k h1) (k0_off72_inb i k h1) x,
    fun x => tile_piece (arg7.view.read (Elt Ideal) X) (arg8.view.read (Elt Ideal) Y) G (by decide) hG 8 k.val (off67 k) (off68 k) (off69 k)
      (k0_off67_inb i k h1) (k0_off68_inb i k h1) (k0_off69_inb i k h1) x,
    fun x => tile_piece (arg7.view.read (Elt Ideal) X) (arg8.view.read (Elt Ideal) Y) G (by decide) hG 7 k.val (off64 k) (off65 k) (off66 k)
      (k0_off64_inb i k h1) (k0_off65_inb i k h1) (k0_off66_inb i k h1) x,
    fun x => tile_piece (arg7.view.read (Elt Ideal) X) (arg8.view.read (Elt Ideal) Y) G (by decide) hG 6 k.val (off61 k) (off62 k) (off63 k)
      (k0_off61_inb i k h1) (k0_off62_inb i k h1) (k0_off63_inb i k h1) x,
    fun x => tile_piece (arg7.view.read (Elt Ideal) X) (arg8.view.read (Elt Ideal) Y) G (by decide) hG 5 k.val (off58 k) (off59 k) (off60 k)
      (k0_off58_inb i k h1) (k0_off59_inb i k h1) (k0_off60_inb i k h1) x,
    fun x => tile_piece (arg7.view.read (Elt Ideal) X) (arg8.view.read (Elt Ideal) Y) G (by decide) hG 4 k.val (off55 k) (off56 k) (off57 k)
      (k0_off55_inb i k h1) (k0_off56_inb i k h1) (k0_off57_inb i k h1) x,
    fun x => tile_piece (arg7.view.read (Elt Ideal) X) (arg8.view.read (Elt Ideal) Y) G (by decide) hG 3 k.val (off52 k) (off53 k) (off54 k)
      (k0_off52_inb i k h1) (k0_off53_inb i k h1) (k0_off54_inb i k h1) x,
    fun x => tile_piece (arg7.view.read (Elt Ideal) X) (arg8.view.read (Elt Ideal) Y) G (by decide) hG 2 k.val (off49 k) (off50 k) (off51 k)
      (k0_off49_inb i k h1) (k0_off50_inb i k h1) (k0_off51_inb i k h1) x,
    fun x => tile_piece (arg7.view.read (Elt Ideal) X) (arg8.view.read (Elt Ideal) Y) G (by decide) hG 1 k.val (off46 k) (off47 k) (off48 k)
      (k0_off46_inb i k h1) (k0_off47_inb i k h1) (k0_off48_inb i k h1) x,
    fun x => tile_piece (arg7.view.read (Elt Ideal) X) (arg8.view.read (Elt Ideal) Y) G (by decide) hG 0 k.val (off43 k) (off44 k) (off45 k)
      (k0_off43_inb i k h1) (k0_off44_inb i k h1) (k0_off45_inb i k h1) x,
    fun _ h => absurd h List.not_mem_nil⟩

/-- The stores of dequantization loop 2 cover its rows. -/
theorem cover2 (h1 : k0_cond1 i = 1#1) (X : BufTy.Contents (Elt Ideal) arg7.view.ty) (Y : BufTy.Contents (Elt Ideal) arg8.view.ty) (r : Fin 3456) (l : Fin 3584)
    (hr : 2688 ≤ r.val) (hr' : r.val < 3072) :
    ∃ k, ∃ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k, (ix2 r l : S3456x3584.Idx) ∈ p.1.set := by
  refine ⟨⟨(r.val - 2688) / 128, by show _ < 3; omega⟩, ?_⟩
  rw [tripL2]
  have hl : l.val / 256 = 0 ∨ l.val / 256 = 1 ∨ l.val / 256 = 2 ∨ l.val / 256 = 3 ∨ l.val / 256 = 4 ∨ l.val / 256 = 5 ∨ l.val / 256 = 6 ∨ l.val / 256 = 7 ∨ l.val / 256 = 8 ∨ l.val / 256 = 9 ∨ l.val / 256 = 10 ∨ l.val / 256 = 11 ∨ l.val / 256 = 12 ∨ l.val / 256 = 13 := by omega
  rcases hl with hl | hl | hl | hl | hl | hl | hl | hl | hl | hl | hl | hl | hl | hl
  · exact ⟨_, .tail _ (.tail _ (.tail _ (.tail _ (.tail _ (.tail _ (.tail _ (.tail _ (.tail _ (.tail _ (.tail _ (.tail _ (.tail _ (.head _))))))))))))), mem_tile (b := 2688) (off45 _) (k0_off45_inb i _ h1) r l hr rfl hl⟩
  · exact ⟨_, .tail _ (.tail _ (.tail _ (.tail _ (.tail _ (.tail _ (.tail _ (.tail _ (.tail _ (.tail _ (.tail _ (.tail _ (.head _)))))))))))), mem_tile (b := 2688) (off48 _) (k0_off48_inb i _ h1) r l hr rfl hl⟩
  · exact ⟨_, .tail _ (.tail _ (.tail _ (.tail _ (.tail _ (.tail _ (.tail _ (.tail _ (.tail _ (.tail _ (.tail _ (.head _))))))))))), mem_tile (b := 2688) (off51 _) (k0_off51_inb i _ h1) r l hr rfl hl⟩
  · exact ⟨_, .tail _ (.tail _ (.tail _ (.tail _ (.tail _ (.tail _ (.tail _ (.tail _ (.tail _ (.tail _ (.head _)))))))))), mem_tile (b := 2688) (off54 _) (k0_off54_inb i _ h1) r l hr rfl hl⟩
  · exact ⟨_, .tail _ (.tail _ (.tail _ (.tail _ (.tail _ (.tail _ (.tail _ (.tail _ (.tail _ (.head _))))))))), mem_tile (b := 2688) (off57 _) (k0_off57_inb i _ h1) r l hr rfl hl⟩
  · exact ⟨_, .tail _ (.tail _ (.tail _ (.tail _ (.tail _ (.tail _ (.tail _ (.tail _ (.head _)))))))), mem_tile (b := 2688) (off60 _) (k0_off60_inb i _ h1) r l hr rfl hl⟩
  · exact ⟨_, .tail _ (.tail _ (.tail _ (.tail _ (.tail _ (.tail _ (.tail _ (.head _))))))), mem_tile (b := 2688) (off63 _) (k0_off63_inb i _ h1) r l hr rfl hl⟩
  · exact ⟨_, .tail _ (.tail _ (.tail _ (.tail _ (.tail _ (.tail _ (.head _)))))), mem_tile (b := 2688) (off66 _) (k0_off66_inb i _ h1) r l hr rfl hl⟩
  · exact ⟨_, .tail _ (.tail _ (.tail _ (.tail _ (.tail _ (.head _))))), mem_tile (b := 2688) (off69 _) (k0_off69_inb i _ h1) r l hr rfl hl⟩
  · exact ⟨_, .tail _ (.tail _ (.tail _ (.tail _ (.head _)))), mem_tile (b := 2688) (off72 _) (k0_off72_inb i _ h1) r l hr rfl hl⟩
  · exact ⟨_, .tail _ (.tail _ (.tail _ (.head _))), mem_tile (b := 2688) (off75 _) (k0_off75_inb i _ h1) r l hr rfl hl⟩
  · exact ⟨_, .tail _ (.tail _ (.head _)), mem_tile (b := 2688) (off78 _) (k0_off78_inb i _ h1) r l hr rfl hl⟩
  · exact ⟨_, .tail _ (.head _), mem_tile (b := 2688) (off81 _) (k0_off81_inb i _ h1) r l hr rfl hl⟩
  · exact ⟨_, .head _, mem_tile (b := 2688) (off84 _) (k0_off84_inb i _ h1) r l hr rfl hl⟩

theorem mem2 (h1 : k0_cond1 i = 1#1) (X : BufTy.Contents (Elt Ideal) arg7.view.ty) (Y : BufTy.Contents (Elt Ideal) arg8.view.ty) (p) :
    p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k0_t2_loop.trips
      ↔ ∃ k, p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k :=
  mem_trips _ (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y) (by rw [pb_k0_t2.eq_1])
    (fun k => pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k) p

/-- Every store of dequantization loop 3 stores its part of the array of dequantized weights. -/
theorem good3 (h1 : k0_cond1 i = 1#1) (X : BufTy.Contents (Elt Ideal) arg9.view.ty) (Y : BufTy.Contents (Elt Ideal) arg10.view.ty) (G : S3456x3584.Idx → EReal)
    (hG : ∀ (a : ℕ) (h : 3072 + a < 3456) (ha : a < 384) (hs : src a < 384) (k : Fin 3584),
      G (ix2 ⟨3072 + a, h⟩ k) = wval (n := 384) (arg9.view.read (Elt Ideal) X) (arg10.view.read (Elt Ideal) Y) ⟨src a, hs⟩ k)
    (k : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k, ∀ x, p.2 x = G (p.1.emb x) := by
  rw [tripL3]
  simp only [List.forall_mem_cons]
  exact ⟨
    fun x => tile_piece (arg9.view.read (Elt Ideal) X) (arg10.view.read (Elt Ideal) Y) G (by decide) hG 13 k.val (off124 k) (off125 k) (off126 k)
      (k0_off124_inb i k h1) (k0_off125_inb i k h1) (k0_off126_inb i k h1) x,
    fun x => tile_piece (arg9.view.read (Elt Ideal) X) (arg10.view.read (Elt Ideal) Y) G (by decide) hG 12 k.val (off121 k) (off122 k) (off123 k)
      (k0_off121_inb i k h1) (k0_off122_inb i k h1) (k0_off123_inb i k h1) x,
    fun x => tile_piece (arg9.view.read (Elt Ideal) X) (arg10.view.read (Elt Ideal) Y) G (by decide) hG 11 k.val (off118 k) (off119 k) (off120 k)
      (k0_off118_inb i k h1) (k0_off119_inb i k h1) (k0_off120_inb i k h1) x,
    fun x => tile_piece (arg9.view.read (Elt Ideal) X) (arg10.view.read (Elt Ideal) Y) G (by decide) hG 10 k.val (off115 k) (off116 k) (off117 k)
      (k0_off115_inb i k h1) (k0_off116_inb i k h1) (k0_off117_inb i k h1) x,
    fun x => tile_piece (arg9.view.read (Elt Ideal) X) (arg10.view.read (Elt Ideal) Y) G (by decide) hG 9 k.val (off112 k) (off113 k) (off114 k)
      (k0_off112_inb i k h1) (k0_off113_inb i k h1) (k0_off114_inb i k h1) x,
    fun x => tile_piece (arg9.view.read (Elt Ideal) X) (arg10.view.read (Elt Ideal) Y) G (by decide) hG 8 k.val (off109 k) (off110 k) (off111 k)
      (k0_off109_inb i k h1) (k0_off110_inb i k h1) (k0_off111_inb i k h1) x,
    fun x => tile_piece (arg9.view.read (Elt Ideal) X) (arg10.view.read (Elt Ideal) Y) G (by decide) hG 7 k.val (off106 k) (off107 k) (off108 k)
      (k0_off106_inb i k h1) (k0_off107_inb i k h1) (k0_off108_inb i k h1) x,
    fun x => tile_piece (arg9.view.read (Elt Ideal) X) (arg10.view.read (Elt Ideal) Y) G (by decide) hG 6 k.val (off103 k) (off104 k) (off105 k)
      (k0_off103_inb i k h1) (k0_off104_inb i k h1) (k0_off105_inb i k h1) x,
    fun x => tile_piece (arg9.view.read (Elt Ideal) X) (arg10.view.read (Elt Ideal) Y) G (by decide) hG 5 k.val (off100 k) (off101 k) (off102 k)
      (k0_off100_inb i k h1) (k0_off101_inb i k h1) (k0_off102_inb i k h1) x,
    fun x => tile_piece (arg9.view.read (Elt Ideal) X) (arg10.view.read (Elt Ideal) Y) G (by decide) hG 4 k.val (off97 k) (off98 k) (off99 k)
      (k0_off97_inb i k h1) (k0_off98_inb i k h1) (k0_off99_inb i k h1) x,
    fun x => tile_piece (arg9.view.read (Elt Ideal) X) (arg10.view.read (Elt Ideal) Y) G (by decide) hG 3 k.val (off94 k) (off95 k) (off96 k)
      (k0_off94_inb i k h1) (k0_off95_inb i k h1) (k0_off96_inb i k h1) x,
    fun x => tile_piece (arg9.view.read (Elt Ideal) X) (arg10.view.read (Elt Ideal) Y) G (by decide) hG 2 k.val (off91 k) (off92 k) (off93 k)
      (k0_off91_inb i k h1) (k0_off92_inb i k h1) (k0_off93_inb i k h1) x,
    fun x => tile_piece (arg9.view.read (Elt Ideal) X) (arg10.view.read (Elt Ideal) Y) G (by decide) hG 1 k.val (off88 k) (off89 k) (off90 k)
      (k0_off88_inb i k h1) (k0_off89_inb i k h1) (k0_off90_inb i k h1) x,
    fun x => tile_piece (arg9.view.read (Elt Ideal) X) (arg10.view.read (Elt Ideal) Y) G (by decide) hG 0 k.val (off85 k) (off86 k) (off87 k)
      (k0_off85_inb i k h1) (k0_off86_inb i k h1) (k0_off87_inb i k h1) x,
    fun _ h => absurd h List.not_mem_nil⟩

/-- The stores of dequantization loop 3 cover its rows. -/
theorem cover3 (h1 : k0_cond1 i = 1#1) (X : BufTy.Contents (Elt Ideal) arg9.view.ty) (Y : BufTy.Contents (Elt Ideal) arg10.view.ty) (r : Fin 3456) (l : Fin 3584)
    (hr : 3072 ≤ r.val) (hr' : r.val < 3456) :
    ∃ k, ∃ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k, (ix2 r l : S3456x3584.Idx) ∈ p.1.set := by
  refine ⟨⟨(r.val - 3072) / 128, by show _ < 3; omega⟩, ?_⟩
  rw [tripL3]
  have hl : l.val / 256 = 0 ∨ l.val / 256 = 1 ∨ l.val / 256 = 2 ∨ l.val / 256 = 3 ∨ l.val / 256 = 4 ∨ l.val / 256 = 5 ∨ l.val / 256 = 6 ∨ l.val / 256 = 7 ∨ l.val / 256 = 8 ∨ l.val / 256 = 9 ∨ l.val / 256 = 10 ∨ l.val / 256 = 11 ∨ l.val / 256 = 12 ∨ l.val / 256 = 13 := by omega
  rcases hl with hl | hl | hl | hl | hl | hl | hl | hl | hl | hl | hl | hl | hl | hl
  · exact ⟨_, .tail _ (.tail _ (.tail _ (.tail _ (.tail _ (.tail _ (.tail _ (.tail _ (.tail _ (.tail _ (.tail _ (.tail _ (.tail _ (.head _))))))))))))), mem_tile (b := 3072) (off87 _) (k0_off87_inb i _ h1) r l hr rfl hl⟩
  · exact ⟨_, .tail _ (.tail _ (.tail _ (.tail _ (.tail _ (.tail _ (.tail _ (.tail _ (.tail _ (.tail _ (.tail _ (.tail _ (.head _)))))))))))), mem_tile (b := 3072) (off90 _) (k0_off90_inb i _ h1) r l hr rfl hl⟩
  · exact ⟨_, .tail _ (.tail _ (.tail _ (.tail _ (.tail _ (.tail _ (.tail _ (.tail _ (.tail _ (.tail _ (.tail _ (.head _))))))))))), mem_tile (b := 3072) (off93 _) (k0_off93_inb i _ h1) r l hr rfl hl⟩
  · exact ⟨_, .tail _ (.tail _ (.tail _ (.tail _ (.tail _ (.tail _ (.tail _ (.tail _ (.tail _ (.tail _ (.head _)))))))))), mem_tile (b := 3072) (off96 _) (k0_off96_inb i _ h1) r l hr rfl hl⟩
  · exact ⟨_, .tail _ (.tail _ (.tail _ (.tail _ (.tail _ (.tail _ (.tail _ (.tail _ (.tail _ (.head _))))))))), mem_tile (b := 3072) (off99 _) (k0_off99_inb i _ h1) r l hr rfl hl⟩
  · exact ⟨_, .tail _ (.tail _ (.tail _ (.tail _ (.tail _ (.tail _ (.tail _ (.tail _ (.head _)))))))), mem_tile (b := 3072) (off102 _) (k0_off102_inb i _ h1) r l hr rfl hl⟩
  · exact ⟨_, .tail _ (.tail _ (.tail _ (.tail _ (.tail _ (.tail _ (.tail _ (.head _))))))), mem_tile (b := 3072) (off105 _) (k0_off105_inb i _ h1) r l hr rfl hl⟩
  · exact ⟨_, .tail _ (.tail _ (.tail _ (.tail _ (.tail _ (.tail _ (.head _)))))), mem_tile (b := 3072) (off108 _) (k0_off108_inb i _ h1) r l hr rfl hl⟩
  · exact ⟨_, .tail _ (.tail _ (.tail _ (.tail _ (.tail _ (.head _))))), mem_tile (b := 3072) (off111 _) (k0_off111_inb i _ h1) r l hr rfl hl⟩
  · exact ⟨_, .tail _ (.tail _ (.tail _ (.tail _ (.head _)))), mem_tile (b := 3072) (off114 _) (k0_off114_inb i _ h1) r l hr rfl hl⟩
  · exact ⟨_, .tail _ (.tail _ (.tail _ (.head _))), mem_tile (b := 3072) (off117 _) (k0_off117_inb i _ h1) r l hr rfl hl⟩
  · exact ⟨_, .tail _ (.tail _ (.head _)), mem_tile (b := 3072) (off120 _) (k0_off120_inb i _ h1) r l hr rfl hl⟩
  · exact ⟨_, .tail _ (.head _), mem_tile (b := 3072) (off123 _) (k0_off123_inb i _ h1) r l hr rfl hl⟩
  · exact ⟨_, .head _, mem_tile (b := 3072) (off126 _) (k0_off126_inb i _ h1) r l hr rfl hl⟩

theorem mem3 (h1 : k0_cond1 i = 1#1) (X : BufTy.Contents (Elt Ideal) arg9.view.ty) (Y : BufTy.Contents (Elt Ideal) arg10.view.ty) (p) :
    p ∈ pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k0_t3_loop.trips
      ↔ ∃ k, p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k :=
  mem_trips _ (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y) (by rw [pb_k0_t3.eq_1])
    (fun k => pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X Y k) p

/-- What the three dequantization loops leave in the scratch array. -/
theorem w_read (h1 : k0_cond1 i = 1#1) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (f : BufTy.Contents (Elt Ideal) arg14.view.ty) (r : Fin 3456) (l : Fin 3584) :
    arg14.view.read (Elt Ideal) (arg14.view.writes (Elt Ideal) (arg14.view.writes (Elt Ideal) (arg14.view.writes (Elt Ideal) f
        (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X5 X6 k0_t1_loop.trips))
        (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X7 X8 k0_t2_loop.trips))
        (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X9 X10 k0_t3_loop.trips)) (ix2 r l)
      = wspec (arg5.view.read (Elt Ideal) X5) (arg6.view.read (Elt Ideal) X6) (arg7.view.read (Elt Ideal) X7) (arg8.view.read (Elt Ideal) X8) (arg9.view.read (Elt Ideal) X9) (arg10.view.read (Elt Ideal) X10) r l := by
  rw [← View.writes_append, ← View.writes_append]
  refine View.read_writes_apply_of_pieces arg14.view f (fun y => wspec (arg5.view.read (Elt Ideal) X5) (arg6.view.read (Elt Ideal) X6) (arg7.view.read (Elt Ideal) X7) (arg8.view.read (Elt Ideal) X8) (arg9.view.read (Elt Ideal) X9) (arg10.view.read (Elt Ideal) X10) (y 0) (y 1)) _ ?_ (ix2 r l) ?_
  · intro p hp
    rw [List.mem_append, List.mem_append, mem1, mem2, mem3] at hp
    rcases hp with (⟨k, hp⟩ | ⟨k, hp⟩) | ⟨k, hp⟩
    · refine good3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X9 X10 (fun y => wspec (arg5.view.read (Elt Ideal) X5) (arg6.view.read (Elt Ideal) X6) (arg7.view.read (Elt Ideal) X7) (arg8.view.read (Elt Ideal) X8) (arg9.view.read (Elt Ideal) X9) (arg10.view.read (Elt Ideal) X10) (y 0) (y 1)) ?_ k p hp
      intro a h ha hs k
      show wspec (arg5.view.read (Elt Ideal) X5) (arg6.view.read (Elt Ideal) X6) (arg7.view.read (Elt Ideal) X7) (arg8.view.read (Elt Ideal) X8) (arg9.view.read (Elt Ideal) X9) (arg10.view.read (Elt Ideal) X10) ⟨3072 + a, h⟩ k = _
      unfold wspec
      rw [dif_neg (by show ¬ 3072 + a < 2688; omega), dif_neg (by show ¬ 3072 + a < 3072; omega)]
      simp only [Nat.add_sub_cancel_left]
    · refine good2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X7 X8 (fun y => wspec (arg5.view.read (Elt Ideal) X5) (arg6.view.read (Elt Ideal) X6) (arg7.view.read (Elt Ideal) X7) (arg8.view.read (Elt Ideal) X8) (arg9.view.read (Elt Ideal) X9) (arg10.view.read (Elt Ideal) X10) (y 0) (y 1)) ?_ k p hp
      intro a h ha hs k
      show wspec (arg5.view.read (Elt Ideal) X5) (arg6.view.read (Elt Ideal) X6) (arg7.view.read (Elt Ideal) X7) (arg8.view.read (Elt Ideal) X8) (arg9.view.read (Elt Ideal) X9) (arg10.view.read (Elt Ideal) X10) ⟨2688 + a, h⟩ k = _
      unfold wspec
      rw [dif_neg (by show ¬ 2688 + a < 2688; omega), dif_pos (by show 2688 + a < 3072; omega)]
      simp only [Nat.add_sub_cancel_left]
    · refine good1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X5 X6 (fun y => wspec (arg5.view.read (Elt Ideal) X5) (arg6.view.read (Elt Ideal) X6) (arg7.view.read (Elt Ideal) X7) (arg8.view.read (Elt Ideal) X8) (arg9.view.read (Elt Ideal) X9) (arg10.view.read (Elt Ideal) X10) (y 0) (y 1)) ?_ k p hp
      intro a h ha hs k
      show wspec (arg5.view.read (Elt Ideal) X5) (arg6.view.read (Elt Ideal) X6) (arg7.view.read (Elt Ideal) X7) (arg8.view.read (Elt Ideal) X8) (arg9.view.read (Elt Ideal) X9) (arg10.view.read (Elt Ideal) X10) ⟨0 + a, h⟩ k = _
      unfold wspec
      rw [dif_pos (by show 0 + a < 2688; omega)]
      simp only [Nat.zero_add]
  · by_cases a1 : r.val < 2688
    · obtain ⟨k, p, hp, hm⟩ := cover1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X5 X6 r l (by omega) a1
      exact ⟨p, List.mem_append_right _ ((mem1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X5 X6 p).2 ⟨k, hp⟩), hm⟩
    · by_cases a2 : r.val < 3072
      · obtain ⟨k, p, hp, hm⟩ := cover2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X7 X8 r l (by omega) a2
        exact ⟨p, List.mem_append_left _ (List.mem_append_right _ ((mem2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X7 X8 p).2 ⟨k, hp⟩)), hm⟩
      · obtain ⟨k, p, hp, hm⟩ := cover3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X9 X10 r l (by omega) (by omega)
        exact ⟨p, List.mem_append_left _ (List.mem_append_left _ ((mem3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X9 X10 p).2 ⟨k, hp⟩)), hm⟩

end

end Cert.KernelIdeal.Val

end
-- ==== Proof.KernelIdeal.Rope.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Eight rotated pairs: `a` and `b` are the two members of each pair, `c` and `s` the cosine and the sine; the rotated
    members stand in alternate rows. -/
def rot (a b c s : FVec Ideal S8x512 .f32) : FVec Ideal S16x512 .bf16 :=
  interleaveRows S16x512 (truncf .bf16 (subf (mulf a c) (mulf b s)) bitsLt_bf16_f32) (truncf .bf16 (addf (mulf a s) (mulf b c)) bitsLt_bf16_f32) bitcasts_S16x512_w16_S8x512_w32

/-- Eight pairs without a rotation, their members in alternate rows. -/
def weave (a b : FVec Ideal S8x512 .f32) : FVec Ideal S16x512 .bf16 :=
  interleaveRows S16x512 (truncf .bf16 a bitsLt_bf16_f32) (truncf .bf16 b bitsLt_bf16_f32) bitcasts_S16x512_w16_S8x512_w32

theorem rot_apply (a b c s : FVec Ideal S8x512 .f32) (r : Fin 16) (l : Fin 512) :
    rot a b c s (ix2 r l) = if r.val % 2 = 0 then a (ix2 ⟨r.val / 2, by omega⟩ l) * c (ix2 ⟨r.val / 2, by omega⟩ l) - b (ix2 ⟨r.val / 2, by omega⟩ l) * s (ix2 ⟨r.val / 2, by omega⟩ l)
      else a (ix2 ⟨r.val / 2, by omega⟩ l) * s (ix2 ⟨r.val / 2, by omega⟩ l) + b (ix2 ⟨r.val / 2, by omega⟩ l) * c (ix2 ⟨r.val / 2, by omega⟩ l) := by
  have hr : S16x512.row (ix2 r l) = r.val := rfl
  unfold rot
  pointwise

theorem weave_apply (a b : FVec Ideal S8x512 .f32) (r : Fin 16) (l : Fin 512) :
    weave a b (ix2 r l) = if r.val % 2 = 0 then a (ix2 ⟨r.val / 2, by omega⟩ l) else b (ix2 ⟨r.val / 2, by omega⟩ l) := by
  have hr : S16x512.row (ix2 r l) = r.val := rfl
  unfold weave
  pointwise

/-- The pieces of sixteen rows of a rotated block of products. -/
def ropePieces (y : FVec Ideal S384x512 .f32) (c s : FVec Ideal S48x512 .f32) : List (FVec Ideal S16x512 .bf16) := [
    rot (extractStridedSlice S8x512 ![0, 0] y slices_S384x512_o0_0_S8x512) (extractStridedSlice S8x512 ![8, 0] y slices_S384x512_o8_0_S8x512) (extractStridedSlice S8x512 ![0, 0] c slices_S48x512_o0_0_S8x512) (extractStridedSlice S8x512 ![0, 0] s slices_S48x512_o0_0_S8x512),
    rot (extractStridedSlice S8x512 ![16, 0] y slices_S384x512_o16_0_S8x512) (extractStridedSlice S8x512 ![24, 0] y slices_S384x512_o24_0_S8x512) (extractStridedSlice S8x512 ![8, 0] c slices_S48x512_o8_0_S8x512) (extractStridedSlice S8x512 ![8, 0] s slices_S48x512_o8_0_S8x512),
    rot (extractStridedSlice S8x512 ![32, 0] y slices_S384x512_o32_0_S8x512) (extractStridedSlice S8x512 ![40, 0] y slices_S384x512_o40_0_S8x512) (extractStridedSlice S8x512 ![16, 0] c slices_S48x512_o16_0_S8x512) (extractStridedSlice S8x512 ![16, 0] s slices_S48x512_o16_0_S8x512),
    rot (extractStridedSlice S8x512 ![48, 0] y slices_S384x512_o48_0_S8x512) (extractStridedSlice S8x512 ![56, 0] y slices_S384x512_o56_0_S8x512) (extractStridedSlice S8x512 ![24, 0] c slices_S48x512_o24_0_S8x512) (extractStridedSlice S8x512 ![24, 0] s slices_S48x512_o24_0_S8x512),
    rot (extractStridedSlice S8x512 ![64, 0] y slices_S384x512_o64_0_S8x512) (extractStridedSlice S8x512 ![72, 0] y slices_S384x512_o72_0_S8x512) (extractStridedSlice S8x512 ![32, 0] c slices_S48x512_o32_0_S8x512) (extractStridedSlice S8x512 ![32, 0] s slices_S48x512_o32_0_S8x512),
    rot (extractStridedSlice S8x512 ![80, 0] y slices_S384x512_o80_0_S8x512) (extractStridedSlice S8x512 ![88, 0] y slices_S384x512_o88_0_S8x512) (extractStridedSlice S8x512 ![40, 0] c slices_S48x512_o40_0_S8x512) (extractStridedSlice S8x512 ![40, 0] s slices_S48x512_o40_0_S8x512),
    rot (extractStridedSlice S8x512 ![96, 0] y slices_S384x512_o96_0_S8x512) (extractStridedSlice S8x512 ![104, 0] y slices_S384x512_o104_0_S8x512) (extractStridedSlice S8x512 ![0, 0] c slices_S48x512_o0_0_S8x512) (extractStridedSlice S8x512 ![0, 0] s slices_S48x512_o0_0_S8x512),
    rot (extractStridedSlice S8x512 ![112, 0] y slices_S384x512_o112_0_S8x512) (extractStridedSlice S8x512 ![120, 0] y slices_S384x512_o120_0_S8x512) (extractStridedSlice S8x512 ![8, 0] c slices_S48x512_o8_0_S8x512) (extractStridedSlice S8x512 ![8, 0] s slices_S48x512_o8_0_S8x512),
    rot (extractStridedSlice S8x512 ![128, 0] y slices_S384x512_o128_0_S8x512) (extractStridedSlice S8x512 ![136, 0] y slices_S384x512_o136_0_S8x512) (extractStridedSlice S8x512 ![16, 0] c slices_S48x512_o16_0_S8x512) (extractStridedSlice S8x512 ![16, 0] s slices_S48x512_o16_0_S8x512),
    rot (extractStridedSlice S8x512 ![144, 0] y slices_S384x512_o144_0_S8x512) (extractStridedSlice S8x512 ![152, 0] y slices_S384x512_o152_0_S8x512) (extractStridedSlice S8x512 ![24, 0] c slices_S48x512_o24_0_S8x512) (extractStridedSlice S8x512 ![24, 0] s slices_S48x512_o24_0_S8x512),
    rot (extractStridedSlice S8x512 ![160, 0] y slices_S384x512_o160_0_S8x512) (extractStridedSlice S8x512 ![168, 0] y slices_S384x512_o168_0_S8x512) (extractStridedSlice S8x512 ![32, 0] c slices_S48x512_o32_0_S8x512) (extractStridedSlice S8x512 ![32, 0] s slices_S48x512_o32_0_S8x512),
    rot (extractStridedSlice S8x512 ![176, 0] y slices_S384x512_o176_0_S8x512) (extractStridedSlice S8x512 ![184, 0] y slices_S384x512_o184_0_S8x512) (extractStridedSlice S8x512 ![40, 0] c slices_S48x512_o40_0_S8x512) (extractStridedSlice S8x512 ![40, 0] s slices_S48x512_o40_0_S8x512),
    rot (extractStridedSlice S8x512 ![192, 0] y slices_S384x512_o192_0_S8x512) (extractStridedSlice S8x512 ![200, 0] y slices_S384x512_o200_0_S8x512) (extractStridedSlice S8x512 ![0, 0] c slices_S48x512_o0_0_S8x512) (extractStridedSlice S8x512 ![0, 0] s slices_S48x512_o0_0_S8x512),
    rot (extractStridedSlice S8x512 ![208, 0] y slices_S384x512_o208_0_S8x512) (extractStridedSlice S8x512 ![216, 0] y slices_S384x512_o216_0_S8x512) (extractStridedSlice S8x512 ![8, 0] c slices_S48x512_o8_0_S8x512) (extractStridedSlice S8x512 ![8, 0] s slices_S48x512_o8_0_S8x512),
    rot (extractStridedSlice S8x512 ![224, 0] y slices_S384x512_o224_0_S8x512) (extractStridedSlice S8x512 ![232, 0] y slices_S384x512_o232_0_S8x512) (extractStridedSlice S8x512 ![16, 0] c slices_S48x512_o16_0_S8x512) (extractStridedSlice S8x512 ![16, 0] s slices_S48x512_o16_0_S8x512),
    rot (extractStridedSlice S8x512 ![240, 0] y slices_S384x512_o240_0_S8x512) (extractStridedSlice S8x512 ![248, 0] y slices_S384x512_o248_0_S8x512) (extractStridedSlice S8x512 ![24, 0] c slices_S48x512_o24_0_S8x512) (extractStridedSlice S8x512 ![24, 0] s slices_S48x512_o24_0_S8x512),
    rot (extractStridedSlice S8x512 ![256, 0] y slices_S384x512_o256_0_S8x512) (extractStridedSlice S8x512 ![264, 0] y slices_S384x512_o264_0_S8x512) (extractStridedSlice S8x512 ![32, 0] c slices_S48x512_o32_0_S8x512) (extractStridedSlice S8x512 ![32, 0] s slices_S48x512_o32_0_S8x512),
    rot (extractStridedSlice S8x512 ![272, 0] y slices_S384x512_o272_0_S8x512) (extractStridedSlice S8x512 ![280, 0] y slices_S384x512_o280_0_S8x512) (extractStridedSlice S8x512 ![40, 0] c slices_S48x512_o40_0_S8x512) (extractStridedSlice S8x512 ![40, 0] s slices_S48x512_o40_0_S8x512),
    rot (extractStridedSlice S8x512 ![288, 0] y slices_S384x512_o288_0_S8x512) (extractStridedSlice S8x512 ![296, 0] y slices_S384x512_o296_0_S8x512) (extractStridedSlice S8x512 ![0, 0] c slices_S48x512_o0_0_S8x512) (extractStridedSlice S8x512 ![0, 0] s slices_S48x512_o0_0_S8x512),
    rot (extractStridedSlice S8x512 ![304, 0] y slices_S384x512_o304_0_S8x512) (extractStridedSlice S8x512 ![312, 0] y slices_S384x512_o312_0_S8x512) (extractStridedSlice S8x512 ![8, 0] c slices_S48x512_o8_0_S8x512) (extractStridedSlice S8x512 ![8, 0] s slices_S48x512_o8_0_S8x512),
    rot (extractStridedSlice S8x512 ![320, 0] y slices_S384x512_o320_0_S8x512) (extractStridedSlice S8x512 ![328, 0] y slices_S384x512_o328_0_S8x512) (extractStridedSlice S8x512 ![16, 0] c slices_S48x512_o16_0_S8x512) (extractStridedSlice S8x512 ![16, 0] s slices_S48x512_o16_0_S8x512),
    rot (extractStridedSlice S8x512 ![336, 0] y slices_S384x512_o336_0_S8x512) (extractStridedSlice S8x512 ![344, 0] y slices_S384x512_o344_0_S8x512) (extractStridedSlice S8x512 ![24, 0] c slices_S48x512_o24_0_S8x512) (extractStridedSlice S8x512 ![24, 0] s slices_S48x512_o24_0_S8x512),
    rot (extractStridedSlice S8x512 ![352, 0] y slices_S384x512_o352_0_S8x512) (extractStridedSlice S8x512 ![360, 0] y slices_S384x512_o360_0_S8x512) (extractStridedSlice S8x512 ![32, 0] c slices_S48x512_o32_0_S8x512) (extractStridedSlice S8x512 ![32, 0] s slices_S48x512_o32_0_S8x512),
    rot (extractStridedSlice S8x512 ![368, 0] y slices_S384x512_o368_0_S8x512) (extractStridedSlice S8x512 ![376, 0] y slices_S384x512_o376_0_S8x512) (extractStridedSlice S8x512 ![40, 0] c slices_S48x512_o40_0_S8x512) (extractStridedSlice S8x512 ![40, 0] s slices_S48x512_o40_0_S8x512)]

/-- The pieces of sixteen rows of a block of products that is rewoven only. -/
def weavePieces (y : FVec Ideal S384x512 .f32) : List (FVec Ideal S16x512 .bf16) := [
    weave (extractStridedSlice S8x512 ![0, 0] y slices_S384x512_o0_0_S8x512) (extractStridedSlice S8x512 ![8, 0] y slices_S384x512_o8_0_S8x512),
    weave (extractStridedSlice S8x512 ![16, 0] y slices_S384x512_o16_0_S8x512) (extractStridedSlice S8x512 ![24, 0] y slices_S384x512_o24_0_S8x512),
    weave (extractStridedSlice S8x512 ![32, 0] y slices_S384x512_o32_0_S8x512) (extractStridedSlice S8x512 ![40, 0] y slices_S384x512_o40_0_S8x512),
    weave (extractStridedSlice S8x512 ![48, 0] y slices_S384x512_o48_0_S8x512) (extractStridedSlice S8x512 ![56, 0] y slices_S384x512_o56_0_S8x512),
    weave (extractStridedSlice S8x512 ![64, 0] y slices_S384x512_o64_0_S8x512) (extractStridedSlice S8x512 ![72, 0] y slices_S384x512_o72_0_S8x512),
    weave (extractStridedSlice S8x512 ![80, 0] y slices_S384x512_o80_0_S8x512) (extractStridedSlice S8x512 ![88, 0] y slices_S384x512_o88_0_S8x512),
    weave (extractStridedSlice S8x512 ![96, 0] y slices_S384x512_o96_0_S8x512) (extractStridedSlice S8x512 ![104, 0] y slices_S384x512_o104_0_S8x512),
    weave (extractStridedSlice S8x512 ![112, 0] y slices_S384x512_o112_0_S8x512) (extractStridedSlice S8x512 ![120, 0] y slices_S384x512_o120_0_S8x512),
    weave (extractStridedSlice S8x512 ![128, 0] y slices_S384x512_o128_0_S8x512) (extractStridedSlice S8x512 ![136, 0] y slices_S384x512_o136_0_S8x512),
    weave (extractStridedSlice S8x512 ![144, 0] y slices_S384x512_o144_0_S8x512) (extractStridedSlice S8x512 ![152, 0] y slices_S384x512_o152_0_S8x512),
    weave (extractStridedSlice S8x512 ![160, 0] y slices_S384x512_o160_0_S8x512) (extractStridedSlice S8x512 ![168, 0] y slices_S384x512_o168_0_S8x512),
    weave (extractStridedSlice S8x512 ![176, 0] y slices_S384x512_o176_0_S8x512) (extractStridedSlice S8x512 ![184, 0] y slices_S384x512_o184_0_S8x512),
    weave (extractStridedSlice S8x512 ![192, 0] y slices_S384x512_o192_0_S8x512) (extractStridedSlice S8x512 ![200, 0] y slices_S384x512_o200_0_S8x512),
    weave (extractStridedSlice S8x512 ![208, 0] y slices_S384x512_o208_0_S8x512) (extractStridedSlice S8x512 ![216, 0] y slices_S384x512_o216_0_S8x512),
    weave (extractStridedSlice S8x512 ![224, 0] y slices_S384x512_o224_0_S8x512) (extractStridedSlice S8x512 ![232, 0] y slices_S384x512_o232_0_S8x512),
    weave (extractStridedSlice S8x512 ![240, 0] y slices_S384x512_o240_0_S8x512) (extractStridedSlice S8x512 ![248, 0] y slices_S384x512_o248_0_S8x512),
    weave (extractStridedSlice S8x512 ![256, 0] y slices_S384x512_o256_0_S8x512) (extractStridedSlice S8x512 ![264, 0] y slices_S384x512_o264_0_S8x512),
    weave (extractStridedSlice S8x512 ![272, 0] y slices_S384x512_o272_0_S8x512) (extractStridedSlice S8x512 ![280, 0] y slices_S384x512_o280_0_S8x512),
    weave (extractStridedSlice S8x512 ![288, 0] y slices_S384x512_o288_0_S8x512) (extractStridedSlice S8x512 ![296, 0] y slices_S384x512_o296_0_S8x512),
    weave (extractStridedSlice S8x512 ![304, 0] y slices_S384x512_o304_0_S8x512) (extractStridedSlice S8x512 ![312, 0] y slices_S384x512_o312_0_S8x512),
    weave (extractStridedSlice S8x512 ![320, 0] y slices_S384x512_o320_0_S8x512) (extractStridedSlice S8x512 ![328, 0] y slices_S384x512_o328_0_S8x512),
    weave (extractStridedSlice S8x512 ![336, 0] y slices_S384x512_o336_0_S8x512) (extractStridedSlice S8x512 ![344, 0] y slices_S384x512_o344_0_S8x512),
    weave (extractStridedSlice S8x512 ![352, 0] y slices_S384x512_o352_0_S8x512) (extractStridedSlice S8x512 ![360, 0] y slices_S384x512_o360_0_S8x512),
    weave (extractStridedSlice S8x512 ![368, 0] y slices_S384x512_o368_0_S8x512) (extractStridedSlice S8x512 ![376, 0] y slices_S384x512_o376_0_S8x512)]

/-- All 384 rows of a block of products, rotated. -/
def ropeOut (y : FVec Ideal S384x512 .f32) (c s : FVec Ideal S48x512 .f32) : FVec Ideal S384x512 .bf16 :=
  concatenate S384x512 0 ((ropePieces y c s).map (fun x => (⟨S16x512, x⟩ : (s : Shape) × (s.Idx → Ideal .bf16)))) concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S384x512_d0

/-- All 384 rows of a block of products, rewoven only. -/
def weaveOut (y : FVec Ideal S384x512 .f32) : FVec Ideal S384x512 .bf16 :=
  concatenate S384x512 0 ((weavePieces y).map (fun x => (⟨S16x512, x⟩ : (s : Shape) × (s.Idx → Ideal .bf16)))) concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S384x512_d0

/-- Row `r` of the rotation, the rows of each group of sixteen holding the first members and then the second. -/
def ropeAt {n : ℕ} (hn : n % 16 = 0) (y : Fin n → EReal) (c s : Fin 48 → EReal) (r : Fin n) : EReal :=
  if r.val % 2 = 0 then
    y ⟨16 * (r.val / 16) + r.val % 16 / 2, by omega⟩ * c ⟨8 * (r.val / 16 % 6) + r.val % 16 / 2, by omega⟩
      - y ⟨16 * (r.val / 16) + 8 + r.val % 16 / 2, by omega⟩ * s ⟨8 * (r.val / 16 % 6) + r.val % 16 / 2, by omega⟩
  else
    y ⟨16 * (r.val / 16) + r.val % 16 / 2, by omega⟩ * s ⟨8 * (r.val / 16 % 6) + r.val % 16 / 2, by omega⟩
      + y ⟨16 * (r.val / 16) + 8 + r.val % 16 / 2, by omega⟩ * c ⟨8 * (r.val / 16 % 6) + r.val % 16 / 2, by omega⟩

/-- Row `r` of the reweaving. -/
def weaveAt {n : ℕ} (hn : n % 16 = 0) (y : Fin n → EReal) (r : Fin n) : EReal :=
  if r.val % 2 = 0 then y ⟨16 * (r.val / 16) + r.val % 16 / 2, by omega⟩
  else y ⟨16 * (r.val / 16) + 8 + r.val % 16 / 2, by omega⟩

theorem rot_piece (y : FVec Ideal S384x512 .f32) (c s : FVec Ideal S48x512 .f32) (g : ℕ) {o0 o1 o2 o3 : Fin 2 → ℕ} (e0 : o0 = ![16 * g, 0]) (e1 : o1 = ![16 * g + 8, 0])
    (e2 : o2 = ![8 * (g % 6), 0]) (e3 : o3 = ![8 * (g % 6), 0]) (s0 : S384x512.Slices o0 S8x512) (s1 : S384x512.Slices o1 S8x512) (s2 : S48x512.Slices o2 S8x512) (s3 : S48x512.Slices o3 S8x512)
    (r : Fin 384) (l : Fin 512) (hr : r.val / 16 = g) (q : Fin 16) (hq : r.val = 16 * g + q.val) :
    rot (extractStridedSlice S8x512 o0 y s0) (extractStridedSlice S8x512 o1 y s1) (extractStridedSlice S8x512 o2 c s2) (extractStridedSlice S8x512 o3 s s3) (ix2 q l)
      = ropeAt (n := 384) (by decide) (fun r => y (ix2 r l)) (fun j => c (ix2 j l)) (fun j => s (ix2 j l)) r := by
  subst e0 e1 e2 e3
  rw [rot_apply]
  pointwise
  unfold ropeAt
  have f1 : r.val % 2 = q.val % 2 := by omega
  have f2 : r.val % 16 / 2 = q.val / 2 := by omega
  simp only [f1, f2, hr]

theorem weave_piece (y : FVec Ideal S384x512 .f32) (g : ℕ) {o0 o1 : Fin 2 → ℕ} (e0 : o0 = ![16 * g, 0]) (e1 : o1 = ![16 * g + 8, 0])
    (s0 : S384x512.Slices o0 S8x512) (s1 : S384x512.Slices o1 S8x512)
    (r : Fin 384) (l : Fin 512) (hr : r.val / 16 = g) (q : Fin 16) (hq : r.val = 16 * g + q.val) :
    weave (extractStridedSlice S8x512 o0 y s0) (extractStridedSlice S8x512 o1 y s1) (ix2 q l)
      = weaveAt (n := 384) (by decide) (fun r => y (ix2 r l)) r := by
  subst e0 e1
  rw [weave_apply]
  pointwise
  unfold weaveAt
  have f1 : r.val % 2 = q.val % 2 := by omega
  have f2 : r.val % 16 / 2 = q.val / 2 := by omega
  simp only [f1, f2, hr]

/-- Pieces of sixteen rows, one below another, read at a row: the piece that holds the row. -/
theorem cat_at (l : Fin 512) (v : EReal) (j : S384x512.Idx) (hj : j 1 = l) : ∀ (L : List (FVec Ideal S16x512 .bf16))
    (hs : ∀ s' ∈ (L.map (fun x => (⟨S16x512, x⟩ : (s : Shape) × (s.Idx → Ideal .bf16)))).map (·.1), s'.FitsOff S384x512 0) (c : ℕ)
    (hc : c < (axisSizes S384x512 0 (L.map (fun x => (⟨S16x512, x⟩ : (s : Shape) × (s.Idx → Ideal .bf16))))).sum)
    (hv : ∀ i (hi : i < L.length) (q : Fin 16), c = 16 * i + q.val → L[i] (ix2 q l) = v),
    concatenateAt S384x512 0 j (L.map (fun x => (⟨S16x512, x⟩ : (s : Shape) × (s.Idx → Ideal .bf16)))) hs c hc = v
  | [], _, c, hc, _ => absurd hc (Nat.not_lt_zero _)
  | [x], hs, c, hc, hv => by
    have hc' : c < 16 := hc
    refine (concatenateAt_singleton 0 j x hs c hc).trans (Eq.trans ?_ (hv 0 (by simp) ⟨c, hc'⟩ (by simp)))
    show x _ = x _
    refine congrArg x ?_
    rw [Shape.Idx.norm_def]
    funext a
    match a with
    | ⟨0, _⟩ => rfl
    | ⟨1, _⟩ => exact Fin.ext (congrArg Fin.val hj)
  | x :: y :: L, hs, c, hc, hv => by
    refine (concatenateAt_cons 0 j x ⟨S16x512, y⟩ (L.map (fun x => (⟨S16x512, x⟩ : (s : Shape) × (s.Idx → Ideal .bf16)))) hs c hc).trans ?_
    by_cases h : c < 16
    · refine (dif_pos h).trans (Eq.trans ?_ (hv 0 (by simp) ⟨c, h⟩ (by simp)))
      show x _ = x _
      refine congrArg x ?_
      rw [Shape.Idx.norm_def]
      funext a
      match a with
      | ⟨0, _⟩ => rfl
      | ⟨1, _⟩ => exact Fin.ext (congrArg Fin.val hj)
    · refine (dif_neg h).trans ?_
      exact cat_at l v j hj (y :: L) _ (c - 16) _ fun i hi q e =>
        (hv (i + 1) (by simpa using hi) q (by omega))

theorem ropeOut_apply (y : FVec Ideal S384x512 .f32) (c s : FVec Ideal S48x512 .f32) (r : Fin 384) (l : Fin 512) :
    ropeOut y c s (ix2 r l) = ropeAt (n := 384) (by decide) (fun r => y (ix2 r l)) (fun j => c (ix2 j l)) (fun j => s (ix2 j l)) r := by
  unfold ropeOut
  refine (concatenate_apply S384x512 0 _ _ (ix2 r l)).trans ?_
  refine cat_at l _ (ix2 r l) rfl (ropePieces y c s) _ _ _ ?_
  intro i hi q hq
  have hi' : i < 24 := hi
  have hq' : r.val = 16 * i + q.val := hq
  interval_cases i
  · exact rot_piece y c s 0 rfl rfl rfl rfl _ _ _ _ r l (by omega) q hq
  · exact rot_piece y c s 1 rfl rfl rfl rfl _ _ _ _ r l (by omega) q hq
  · exact rot_piece y c s 2 rfl rfl rfl rfl _ _ _ _ r l (by omega) q hq
  · exact rot_piece y c s 3 rfl rfl rfl rfl _ _ _ _ r l (by omega) q hq
  · exact rot_piece y c s 4 rfl rfl rfl rfl _ _ _ _ r l (by omega) q hq
  · exact rot_piece y c s 5 rfl rfl rfl rfl _ _ _ _ r l (by omega) q hq
  · exact rot_piece y c s 6 rfl rfl rfl rfl _ _ _ _ r l (by omega) q hq
  · exact rot_piece y c s 7 rfl rfl rfl rfl _ _ _ _ r l (by omega) q hq
  · exact rot_piece y c s 8 rfl rfl rfl rfl _ _ _ _ r l (by omega) q hq
  · exact rot_piece y c s 9 rfl rfl rfl rfl _ _ _ _ r l (by omega) q hq
  · exact rot_piece y c s 10 rfl rfl rfl rfl _ _ _ _ r l (by omega) q hq
  · exact rot_piece y c s 11 rfl rfl rfl rfl _ _ _ _ r l (by omega) q hq
  · exact rot_piece y c s 12 rfl rfl rfl rfl _ _ _ _ r l (by omega) q hq
  · exact rot_piece y c s 13 rfl rfl rfl rfl _ _ _ _ r l (by omega) q hq
  · exact rot_piece y c s 14 rfl rfl rfl rfl _ _ _ _ r l (by omega) q hq
  · exact rot_piece y c s 15 rfl rfl rfl rfl _ _ _ _ r l (by omega) q hq
  · exact rot_piece y c s 16 rfl rfl rfl rfl _ _ _ _ r l (by omega) q hq
  · exact rot_piece y c s 17 rfl rfl rfl rfl _ _ _ _ r l (by omega) q hq
  · exact rot_piece y c s 18 rfl rfl rfl rfl _ _ _ _ r l (by omega) q hq
  · exact rot_piece y c s 19 rfl rfl rfl rfl _ _ _ _ r l (by omega) q hq
  · exact rot_piece y c s 20 rfl rfl rfl rfl _ _ _ _ r l (by omega) q hq
  · exact rot_piece y c s 21 rfl rfl rfl rfl _ _ _ _ r l (by omega) q hq
  · exact rot_piece y c s 22 rfl rfl rfl rfl _ _ _ _ r l (by omega) q hq
  · exact rot_piece y c s 23 rfl rfl rfl rfl _ _ _ _ r l (by omega) q hq

theorem weaveOut_apply (y : FVec Ideal S384x512 .f32) (r : Fin 384) (l : Fin 512) :
    weaveOut y (ix2 r l) = weaveAt (n := 384) (by decide) (fun r => y (ix2 r l)) r := by
  unfold weaveOut
  refine (concatenate_apply S384x512 0 _ _ (ix2 r l)).trans ?_
  refine cat_at l _ (ix2 r l) rfl (weavePieces y) _ _ _ ?_
  intro i hi q hq
  have hi' : i < 24 := hi
  have hq' : r.val = 16 * i + q.val := hq
  interval_cases i
  · exact weave_piece y 0 rfl rfl _ _ r l (by omega) q hq
  · exact weave_piece y 1 rfl rfl _ _ r l (by omega) q hq
  · exact weave_piece y 2 rfl rfl _ _ r l (by omega) q hq
  · exact weave_piece y 3 rfl rfl _ _ r l (by omega) q hq
  · exact weave_piece y 4 rfl rfl _ _ r l (by omega) q hq
  · exact weave_piece y 5 rfl rfl _ _ r l (by omega) q hq
  · exact weave_piece y 6 rfl rfl _ _ r l (by omega) q hq
  · exact weave_piece y 7 rfl rfl _ _ r l (by omega) q hq
  · exact weave_piece y 8 rfl rfl _ _ r l (by omega) q hq
  · exact weave_piece y 9 rfl rfl _ _ r l (by omega) q hq
  · exact weave_piece y 10 rfl rfl _ _ r l (by omega) q hq
  · exact weave_piece y 11 rfl rfl _ _ r l (by omega) q hq
  · exact weave_piece y 12 rfl rfl _ _ r l (by omega) q hq
  · exact weave_piece y 13 rfl rfl _ _ r l (by omega) q hq
  · exact weave_piece y 14 rfl rfl _ _ r l (by omega) q hq
  · exact weave_piece y 15 rfl rfl _ _ r l (by omega) q hq
  · exact weave_piece y 16 rfl rfl _ _ r l (by omega) q hq
  · exact weave_piece y 17 rfl rfl _ _ r l (by omega) q hq
  · exact weave_piece y 18 rfl rfl _ _ r l (by omega) q hq
  · exact weave_piece y 19 rfl rfl _ _ r l (by omega) q hq
  · exact weave_piece y 20 rfl rfl _ _ r l (by omega) q hq
  · exact weave_piece y 21 rfl rfl _ _ r l (by omega) q hq
  · exact weave_piece y 22 rfl rfl _ _ r l (by omega) q hq
  · exact weave_piece y 23 rfl rfl _ _ r l (by omega) q hq

end Cert.KernelIdeal.Val

end
-- ==== Proof.KernelIdeal.Points.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.BitcastFour
public import Idealize.ShloMosaic.Lib.Pointwise
public import proofs.«01_k».proof.Proof.KernelIdeal.Weights
public import proofs.«01_k».proof.Proof.KernelIdeal.Rope

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem off127 : ∀ k : Fin k0_t4_loop.trips, k0_off127 k = ![0, 16 * k.val, 0] := by decide +kernel
theorem off128 : ∀ (t : Fin grid0.N) (k : Fin k0_t4_loop.trips), k0_off128 (grid0.coords t) k = ![t.val % 2, 16 * k.val, 0] := by decide +kernel
theorem off129 : ∀ k : Fin k0_t5_loop.trips, k0_off129 k = ![384 * k.val, 0] := by decide +kernel
theorem off131 : ∀ k : Fin k0_t5_loop.trips, k0_off131 k = ![0, 384 * k.val, 0] := by decide +kernel
theorem off130 : ∀ (t : Fin grid0.N), k0_off130 (grid0.coords t) = ![(t.val + 1) % 2, 0, 0] := by decide +kernel
theorem off132 : ∀ (t : Fin grid0.N), k0_off132 (grid0.coords t) = ![(t.val + 1) % 2, 0, 0] := by decide +kernel
theorem cond1_iff : ∀ (t : Fin grid0.N), k0_cond1 (grid0.coords t) = 1#1 ↔ t.val = 0 := by decide +kernel
theorem cond2_iff : ∀ (t : Fin grid0.N), k0_cond2 (grid0.coords t) = 1#1 ↔ t.val ≠ 0 := by decide +kernel

/-- Element `(l, k)` of a block of rows, normalized: by the reciprocal root of the mean of the squares of its row, and
    weighted. -/
def normed (X : S1x512x3584.Idx → EReal) (w : S1x3584.Idx → EReal) (l : Fin 512) (k : Fin 3584) : EReal :=
  X (ix3 0 l k) * Ideal.rsqrt ((∑ x, X (ix3 0 l x) * X (ix3 0 l x)) * ((1 / 3584 : ℝ) : EReal) + Ideal.ofBits .f32 0x358637BD#32) * w (ix2 0 k)

theorem inv_d : (Named.named (F := Ideal) κ "inv_d" (φ := .f32) 0x39924925#32 : EReal) = ((1 / 3584 : ℝ) : EReal) :=
  IdealRules.named_const.ideal_named_scalar κ "inv_d" _ _ rfl

section
variable (c : Dev nD) (i : grid0.Coords) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole)

theorem tripL4 (X : BufTy.Contents (Elt Ideal) arg1.view.ty) (Y : BufTy.Contents (Elt Ideal) arg2.view.ty) (k : Fin k0_t4_loop.trips) :
    tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y k =
      [⟨Rect.unit (s := S2x512x3584) (k0_off128 i k) S1x16x3584.size (k0_off128_inb i k),
        k0_pay4 (View.readAt (Elt Ideal) arg1.view (Rect.unit (s := S1x512x3584) (k0_off127 k) S1x16x3584.size (k0_off127_inb k)).toLoadRect X)
          (View.readAt (Elt Ideal) arg2.view (Rect.unit (s := S1x3584) ![0, 0] S1x3584.size inb_S1x3584_S1x3584_0_0).toLoadRect Y)⟩] := by
  unfold tripL_k0_t4 trip_k0_t4
  rfl

theorem tripL5 (v : BitVec 32) (h2 : k0_cond2 i = 1#1) (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty) (k : Fin k0_t5_loop.trips) :
    tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17 k =
      [⟨Rect.unit (s := S1x2688x512) (k0_off131 k) S1x384x512.size (k0_off131_inb i k h2),
        k0_pay133 (ropeOut (k0_pay134
          (View.readAt (Elt Ideal) arg14.view (Rect.unit (s := S3456x3584) (k0_off129 k) S384x3584.size (k0_off129_inb i k h2)).toLoadRect X14)
          (View.readAt (Elt Ideal) arg15.view (Rect.unit (s := S2x512x3584) (k0_off130 i) S1x512x3584.size (k0_off130_inb i h2)).toLoadRect X15))
          (View.readAt (Elt Ideal) arg16.view (Rect.unit (s := S48x512) ![0, 0] S48x512.size inb_S48x512_S48x512_0_0).toLoadRect X16)
          (View.readAt (Elt Ideal) arg17.view (Rect.unit (s := S48x512) ![0, 0] S48x512.size inb_S48x512_S48x512_0_0).toLoadRect X17))⟩] := by
  unfold tripL_k0_t5 trip_k0_t5
  rfl

end

theorem pay4_apply (v : Vec Ideal S1x16x3584 .bf16) (w : Vec Ideal S1x3584 .f32) (a : Fin 16) (k : Fin 3584) :
    k0_pay4 v w (ix3 0 a k) = v (ix3 0 a k) * Ideal.rsqrt ((∑ x, v (ix3 0 a x) * v (ix3 0 a x)) * ((1 / 3584 : ℝ) : EReal) + Ideal.ofBits .f32 0x358637BD#32) * w (ix2 0 k) := by
  rw [← inv_d]
  pointwise [k0_pay4]

theorem prod_apply (a : Vec Ideal S384x3584 .bf16) (b : Vec Ideal S1x512x3584 .bf16) (r : Fin 384) (l : Fin 512) :
    k0_pay134 a b (ix2 r l) = ∑ k, a (ix2 r k) * b (ix3 0 l k) := by
  pointwise [k0_pay134]

theorem pay133_apply (y : FVec Ideal S384x512 .bf16) (r : Fin 384) (l : Fin 512) : k0_pay133 y (ix3 0 r l) = y (ix2 r l) := by
  pointwise [k0_pay133]

theorem pay7_apply (y : FVec Ideal S384x512 .bf16) (r : Fin 384) (l : Fin 512) : k0_pay7 y (ix3 0 r l) = y (ix2 r l) := by
  pointwise [k0_pay7]

theorem cos_apply (p : Vec Ideal S1x1x512 .i32) (f : Vec Ideal S48x1 .f32) (j : Fin 48) (l : Fin 512) :
    k0_pay126 p f (ix2 j l) = Ideal.cos ((FloatOps.sitofp .f32 (p (ix3 0 0 l)) : Ideal .f32) * f (ix2 j 0)) := by
  pointwise [k0_pay126, k0_pay125]

theorem sin_apply (p : Vec Ideal S1x1x512 .i32) (f : Vec Ideal S48x1 .f32) (j : Fin 48) (l : Fin 512) :
    k0_pay127 p f (ix2 j l) = Ideal.sin ((FloatOps.sitofp .f32 (p (ix3 0 0 l)) : Ideal .f32) * f (ix2 j 0)) := by
  pointwise [k0_pay127, k0_pay125]

section
variable (c : Dev nD) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole)

theorem mem4 (i : grid0.Coords) (X : BufTy.Contents (Elt Ideal) arg1.view.ty) (Y : BufTy.Contents (Elt Ideal) arg2.view.ty) (p) :
    p ∈ pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y k0_t4_loop.trips
      ↔ ∃ k, p ∈ tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y k :=
  mem_trips _ (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y) (by rw [pb_k0_t4.eq_1])
    (fun k => pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y k) p

theorem mem5 (i : grid0.Coords) (v : BitVec 32) (h2 : k0_cond2 i = 1#1) (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty) (p) :
    p ∈ pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17 k0_t5_loop.trips
      ↔ ∃ k, p ∈ tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17 k :=
  mem_trips _ (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17) (by rw [pb_k0_t5.eq_1])
    (fun k => pb_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17 k) p

/-- What the normalization loop leaves in the two slots for normalized rows: the slot of the point's parity holds the
    point's rows, the other is as it was. -/
theorem x_read (t : Fin grid0.N) (X : BufTy.Contents (Elt Ideal) arg1.view.ty) (Y : BufTy.Contents (Elt Ideal) arg2.view.ty)
    (f : BufTy.Contents (Elt Ideal) arg15.view.ty) (a : Fin 2) (l : Fin 512) (k : Fin 3584) :
    arg15.view.read (Elt Ideal) (arg15.view.writes (Elt Ideal) f
        (pb_k0_t4 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y k0_t4_loop.trips)) (ix3 a l k)
      = if a.val = t.val % 2 then normed (arg1.view.read (Elt Ideal) X) (arg2.view.read (Elt Ideal) Y) l k
        else arg15.view.read (Elt Ideal) f (ix3 a l k) := by
  by_cases ha : a.val = t.val % 2
  · rw [if_pos ha]
    refine View.read_writes_apply_of_pieces arg15.view f
      (fun y => normed (arg1.view.read (Elt Ideal) X) (arg2.view.read (Elt Ideal) Y) (y 1) (y 2)) _ ?_ (ix3 a l k) ?_
    · intro p hp
      obtain ⟨n, hp⟩ := (mem4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X Y p).1 hp
      rw [tripL4] at hp
      obtain rfl := List.mem_singleton.1 hp
      intro x
      obtain ⟨x0, x1, x2, rfl⟩ : ∃ (x0 : Fin 1) (x1 : Fin 16) (x2 : Fin 3584), x = ix3 x0 x1 x2 := ⟨x 0, x 1, x 2, eq_ix3 x⟩
      obtain rfl : x0 = 0 := Fin.eq_zero x0
      refine (pay4_apply _ _ x1 x2).trans ?_
      have hn : n.val < 32 := n.isLt
      have e1 : ∀ z : Fin 3584, View.readAt (Elt Ideal) arg1.view (Rect.unit (s := S1x512x3584) (k0_off127 n) S1x16x3584.size (k0_off127_inb n)).toLoadRect X (ix3 0 x1 z)
          = arg1.view.read (Elt Ideal) X (ix3 0 ⟨16 * n.val + x1.val, by omega⟩ z) := by
        intro z
        show arg1.view.read (Elt Ideal) X _ = _
        refine congrArg _ (funext fun b => Fin.ext ?_)
        show k0_off127 n b + 1 * (ix3 0 x1 z b).val = _
        rw [off127]
        match b with
        | ⟨0, _⟩ => rfl
        | ⟨1, _⟩ => show 16 * n.val + 1 * x1.val = 16 * n.val + x1.val; omega
        | ⟨2, _⟩ => show 0 + 1 * z.val = z.val; omega
      have e2 : View.readAt (Elt Ideal) arg2.view (Rect.unit (s := S1x3584) ![0, 0] S1x3584.size inb_S1x3584_S1x3584_0_0).toLoadRect Y (ix2 0 x2)
          = arg2.view.read (Elt Ideal) Y (ix2 0 x2) := by
        show arg2.view.read (Elt Ideal) Y _ = _
        refine congrArg _ (funext fun b => Fin.ext ?_)
        match b with
        | ⟨0, _⟩ => rfl
        | ⟨1, _⟩ => show 0 + 1 * x2.val = x2.val; omega
      have e3 : (Rect.unit (s := S2x512x3584) (k0_off128 (grid0.coords t) n) S1x16x3584.size (k0_off128_inb _ n)).emb (ix3 0 x1 x2)
          = ix3 ⟨t.val % 2, by omega⟩ ⟨16 * n.val + x1.val, by omega⟩ x2 := by
        refine funext fun b => Fin.ext ?_
        show k0_off128 (grid0.coords t) n b + 1 * (ix3 0 x1 x2 b).val = _
        rw [off128]
        match b with
        | ⟨0, _⟩ => rfl
        | ⟨1, _⟩ => show 16 * n.val + 1 * x1.val = 16 * n.val + x1.val; omega
        | ⟨2, _⟩ => show 0 + 1 * x2.val = x2.val; omega
      simp only [e1, e2]
      exact (congrArg (fun y : S2x512x3584.Idx => normed (arg1.view.read (Elt Ideal) X) (arg2.view.read (Elt Ideal) Y) (y 1) (y 2)) e3).symm
    · suffices h : ∃ p ∈ tripL_k0_t4 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y ⟨l.val / 16, by show _ < 32; omega⟩, (ix3 a l k : S2x512x3584.Idx) ∈ p.1.set by
        obtain ⟨p, hp, hm⟩ := h
        exact ⟨p, (mem4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X Y p).2 ⟨_, hp⟩, hm⟩
      rw [tripL4]
      refine ⟨_, .head _, ?_⟩
      refine (Rect.mem_set_unit (inb := k0_off128_inb (grid0.coords t) _)).2 fun b => ?_
      rw [off128]
      match b with
      | ⟨0, _⟩ => exact ⟨by show t.val % 2 ≤ a.val; omega, by show a.val < t.val % 2 + 1; omega⟩
      | ⟨1, _⟩ => exact ⟨by show 16 * (l.val / 16) ≤ l.val; omega, by show l.val < 16 * (l.val / 16) + 16; omega⟩
      | ⟨2, _⟩ => exact ⟨Nat.zero_le _, by show k.val < 0 + 3584; omega⟩
  · rw [if_neg ha]
    refine View.read_writes_apply_of_forall_not_mem arg15.view f (ix3 a l k) (pb_k0_t4 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y k0_t4_loop.trips) fun p hp hm => ha ?_
    obtain ⟨n, hp⟩ := (mem4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X Y p).1 hp
    rw [tripL4] at hp
    obtain rfl := List.mem_singleton.1 hp
    have := (Rect.mem_set_unit (inb := k0_off128_inb (grid0.coords t) n)).1 hm 0
    rw [off128] at this
    have h1 : t.val % 2 ≤ a.val := this.1
    have h2 : a.val < t.val % 2 + 1 := this.2
    omega

/-- The products of row `r` of the scratch weights with the normalized rows of the slot that the point does not write. -/
def prodAt (t : Fin grid0.N) (W : S3456x3584.Idx → EReal) (N : S2x512x3584.Idx → EReal) (l : Fin 512) (r : Fin 3456) : EReal :=
  ∑ k, W (ix2 r k) * N (ix3 ⟨(t.val + 1) % 2, by omega⟩ l k)

/-- A product of a block of rows of the weights. -/
theorem prod_read (t : Fin grid0.N) (b : ℕ) (hb : b + 384 ≤ 3456) {o : Fin 2 → ℕ} {o' : Fin 3 → ℕ} (e : o = ![b, 0]) (e' : o' = ![(t.val + 1) % 2, 0, 0])
    (s : ∀ a, o a + S384x3584.size a ≤ S3456x3584.size a) (s' : ∀ a, o' a + S1x512x3584.size a ≤ S2x512x3584.size a)
    (X14 : BufTy.Contents (Elt Ideal) arg14.view.ty) (X15 : BufTy.Contents (Elt Ideal) arg15.view.ty) (r : Fin 384) (l : Fin 512) :
    k0_pay134 (View.readAt (Elt Ideal) arg14.view (Rect.unit (s := S3456x3584) o S384x3584.size s).toLoadRect X14)
        (View.readAt (Elt Ideal) arg15.view (Rect.unit (s := S2x512x3584) o' S1x512x3584.size s').toLoadRect X15) (ix2 r l)
      = prodAt t (arg14.view.read (Elt Ideal) X14) (arg15.view.read (Elt Ideal) X15) l ⟨b + r.val, by omega⟩ := by
  subst e e'
  refine (prod_apply _ _ r l).trans (Finset.sum_congr rfl fun k _ => ?_)
  refine congrArg₂ (fun a b : EReal => a * b) ?_ ?_
  · show arg14.view.read (Elt Ideal) X14 _ = _
    refine congrArg _ (funext fun b => Fin.ext ?_)
    match b with
    | ⟨0, _⟩ => show _ + 1 * r.val = _ + r.val; rw [Nat.one_mul]; rfl
    | ⟨1, _⟩ => show 0 + 1 * k.val = k.val; omega
  · show arg15.view.read (Elt Ideal) X15 _ = _
    refine congrArg _ (funext fun b => Fin.ext ?_)
    match b with
    | ⟨0, _⟩ => rfl
    | ⟨1, _⟩ => show 0 + 1 * l.val = l.val; omega
    | ⟨2, _⟩ => show 0 + 1 * k.val = k.val; omega

theorem whole48 {m : Memref sig .tc .vmem S48x512 .f32} (X : BufTy.Contents (Elt Ideal) m.view.ty) (j : Fin 48) (l : Fin 512) :
    View.readAt (Elt Ideal) m.view (Rect.unit (s := S48x512) ![0, 0] S48x512.size inb_S48x512_S48x512_0_0).toLoadRect X (ix2 j l)
      = m.view.read (Elt Ideal) X (ix2 j l) := by
  show m.view.read (Elt Ideal) X _ = _
  refine congrArg _ (funext fun b => Fin.ext ?_)
  match b with
  | ⟨0, _⟩ => show 0 + 1 * j.val = j.val; omega
  | ⟨1, _⟩ => show 0 + 1 * l.val = l.val; omega

/-- A rotated row of a block is the rotated row of the whole, where the block starts at a multiple of 96 rows. -/
theorem ropeAt_block {n : ℕ} (hn : n % 16 = 0) (b : ℕ) (hb : b % 96 = 0) (hbn : b + 384 ≤ n) (y : Fin n → EReal) (y' : Fin 384 → EReal) (hy : ∀ r : Fin 384, y' r = y ⟨b + r.val, by omega⟩)
    (c s : Fin 48 → EReal) (r : Fin 384) : ropeAt (n := 384) (by decide) y' c s r = ropeAt hn y c s ⟨b + r.val, by omega⟩ := by
  have f1 : (b + r.val) % 2 = r.val % 2 := by omega
  have f2 : (b + r.val) % 16 = r.val % 16 := by omega
  have f3 : (b + r.val) / 16 % 6 = r.val / 16 % 6 := by omega
  have f4 : 16 * ((b + r.val) / 16) = b + 16 * (r.val / 16) := by omega
  unfold ropeAt
  simp only [hy, f1, f2, f3, f4, Nat.add_assoc]

theorem weaveAt_block {n : ℕ} (hn : n % 16 = 0) (b : ℕ) (hb : b % 96 = 0) (hbn : b + 384 ≤ n) (y : Fin n → EReal) (y' : Fin 384 → EReal) (hy : ∀ r : Fin 384, y' r = y ⟨b + r.val, by omega⟩)
    (r : Fin 384) : weaveAt (n := 384) (by decide) y' r = weaveAt hn y ⟨b + r.val, by omega⟩ := by
  have f1 : (b + r.val) % 2 = r.val % 2 := by omega
  have f2 : (b + r.val) % 16 = r.val % 16 := by omega
  have f4 : 16 * ((b + r.val) / 16) = b + 16 * (r.val / 16) := by omega
  unfold weaveAt
  simp only [hy, f1, f2, f4, Nat.add_assoc]

/-- What the loop over the query rows leaves in its output block. -/
theorem q_read (t : Fin grid0.N) (v : BitVec 32) (h2 : k0_cond2 (grid0.coords t) = 1#1) (X14 : BufTy.Contents (Elt Ideal) arg14.view.ty) (X15 : BufTy.Contents (Elt Ideal) arg15.view.ty)
    (X16 : BufTy.Contents (Elt Ideal) arg16.view.ty) (X17 : BufTy.Contents (Elt Ideal) arg17.view.ty)
    (f : BufTy.Contents (Elt Ideal) arg11.view.ty) (r : Fin 2688) (l : Fin 512) :
    arg11.view.read (Elt Ideal) (arg11.view.writes (Elt Ideal) f
        (pb_k0_t5 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17 k0_t5_loop.trips)) (ix3 0 r l)
      = ropeAt (n := 3456) (by decide) (prodAt t (arg14.view.read (Elt Ideal) X14) (arg15.view.read (Elt Ideal) X15) l)
          (fun j => arg16.view.read (Elt Ideal) X16 (ix2 j l)) (fun j => arg17.view.read (Elt Ideal) X17 (ix2 j l)) ⟨r.val, by omega⟩ := by
  refine View.read_writes_apply_of_pieces arg11.view f
    (fun y => ropeAt (n := 3456) (by decide) (prodAt t (arg14.view.read (Elt Ideal) X14) (arg15.view.read (Elt Ideal) X15) (y 2))
          (fun j => arg16.view.read (Elt Ideal) X16 (ix2 j (y 2))) (fun j => arg17.view.read (Elt Ideal) X17 (ix2 j (y 2))) ⟨(y 1).val, Nat.lt_of_lt_of_le (y 1).isLt (by decide)⟩)
    _ ?_ (ix3 0 r l) ?_
  · intro p hp
    obtain ⟨n, hp⟩ := (mem5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ v h2 X14 X15 X16 X17 p).1 hp
    rw [tripL5] at hp
    obtain rfl := List.mem_singleton.1 hp
    intro x
    obtain ⟨x0, x1, x2, rfl⟩ : ∃ (x0 : Fin 1) (x1 : Fin 384) (x2 : Fin 512), x = ix3 x0 x1 x2 := ⟨x 0, x 1, x 2, eq_ix3 x⟩
    obtain rfl : x0 = 0 := Fin.eq_zero x0
    have hn : n.val < 7 := n.isLt
    have e3 : (Rect.unit (s := S1x2688x512) (k0_off131 n) S1x384x512.size (k0_off131_inb _ n h2)).emb (ix3 0 x1 x2)
        = ix3 0 ⟨384 * n.val + x1.val, by omega⟩ x2 := by
      refine funext fun b => Fin.ext ?_
      show k0_off131 n b + 1 * (ix3 0 x1 x2 b).val = _
      rw [off131]
      match b with
      | ⟨0, _⟩ => rfl
      | ⟨1, _⟩ => show 384 * n.val + 1 * x1.val = 384 * n.val + x1.val; omega
      | ⟨2, _⟩ => show 0 + 1 * x2.val = x2.val; omega
    rw [e3]
    refine (pay133_apply _ x1 x2).trans ((ropeOut_apply _ _ _ x1 x2).trans ?_)
    refine (ropeAt_block (n := 3456) (by decide) (384 * n.val) (by omega) (by omega) _ _
      (fun r => prod_read arg14 arg15 t (384 * n.val) (by omega) (off129 n) (off130 t) (k0_off129_inb _ n h2) (k0_off130_inb _ h2) X14 X15 r x2) _ _ x1).trans ?_
    exact congrArg₂ (fun c s => ropeAt (n := 3456) (by decide) (prodAt t (arg14.view.read (Elt Ideal) X14) (arg15.view.read (Elt Ideal) X15) x2) c s ⟨384 * n.val + x1.val, by omega⟩)
      (funext fun j => whole48 X16 j x2) (funext fun j => whole48 X17 j x2)
  · suffices h : ∃ p ∈ tripL_k0_t5 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v h2 X14 X15 X16 X17 ⟨r.val / 384, by show _ < 7; omega⟩, (ix3 0 r l : S1x2688x512.Idx) ∈ p.1.set by
      obtain ⟨p, hp, hm⟩ := h
      exact ⟨p, (mem5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ v h2 X14 X15 X16 X17 p).2 ⟨_, hp⟩, hm⟩
    rw [tripL5]
    refine ⟨_, .head _, ?_⟩
    refine (Rect.mem_set_unit (inb := k0_off131_inb (grid0.coords t) _ h2)).2 fun b => ?_
    rw [off131]
    match b with
    | ⟨0, _⟩ => exact ⟨Nat.zero_le _, by show 0 < 0 + 1; omega⟩
    | ⟨1, _⟩ => exact ⟨by show 384 * (r.val / 384) ≤ r.val; omega, by show r.val < 384 * (r.val / 384) + 384; omega⟩
    | ⟨2, _⟩ => exact ⟨Nat.zero_le _, by show l.val < 0 + 512; omega⟩

end

end Cert.KernelIdeal.Val

end
-- ==== Proof.KernelIdeal.ValueRunA.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.BitcastFour
public import Idealize.ShloMosaic.Lib.Pointwise
public import proofs.«01_k».proof.Proof.KernelIdeal.Weights
public import proofs.«01_k».proof.Proof.KernelIdeal.Points
public import Idealize.ShloMosaic.Lib.WholeRead
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at the first grid point: the weights are dequantized into the scratch array and the first block of rows is
    normalized into its slot. -/
theorem run_first (c : Dev nD) (t : Fin grid0.N) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole) (hc0 : k0_cond1 (grid0.coords t) = 1#1) (hc1 : ¬ k0_cond2 (grid0.coords t) = 1#1)
    (x0 : Vec Ideal S1x512x3584 .bf16) (x1 : Vec Ideal S1x3584 .f32) (x2 : Vec Ideal S1x1x512 .i32) (x3 : Vec Ideal S48x1 .f32) (x4 : Vec Ideal S1792x2688 .i8) (x5 : Vec Ideal S112x2688 .bf16) (x6 : Vec Ideal S1792x384 .i8) (x7 : Vec Ideal S112x384 .bf16) (x8 : Vec Ideal S1792x384 .i8) (x9 : Vec Ideal S112x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (fun y : S3456x3584.Idx => wspec x4 x5 x6 x7 x8 x9 (y 0) (y 1)) ∗ (∃ d, iprop(⌜∀ l k, d (ix3 ⟨t.val % 2, by omega⟩ l k) = normed x0 x1 l k⌝ ∗ owns (c : Thread nD τ) arg15 fullShare d)) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_qkv_rope (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro
      funext y
      obtain ⟨r, k, rfl⟩ : ∃ (r : Fin 3456) (k : Fin 3584), y = ix2 r k := ⟨y 0, y 1, eq_ix2 y⟩
      rw [View.writes_append, View.writes_append]
      refine (w_read c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 _ _ _ _ _ _ _ r k).trans ?_
      simp only [Memref.IsWhole.read_unread]
      rfl
    isplitl [H14]
    · iexists _; isplitr; swap
      · iexists _; isplitr; swap; · iexact H14
        ipureintro; rfl
      ipureintro
      intro l k
      refine (x_read c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t _ _ _ ⟨t.val % 2, by omega⟩ l k).trans ?_
      rw [if_pos rfl]
      simp only [Memref.IsWhole.read_unread]
    isplitl [H15]
    · iexists _, _; isplitr; swap; · iexact H15
      ipureintro; rfl
    iexists _, _; isplitr; swap; · iexact H16
    ipureintro; rfl

end Cert.KernelIdeal.Val

end
-- ==== Proof.KernelIdeal.ValueRunB.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.BitcastFour
public import Idealize.ShloMosaic.Lib.Pointwise
public import proofs.«01_k».proof.Proof.KernelIdeal.Weights
public import proofs.«01_k».proof.Proof.KernelIdeal.Points
public import Idealize.ShloMosaic.Lib.WholeRead
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem ropeAt_congr {n : ℕ} (hn : n % 16 = 0) {y y' : Fin n → EReal} {c c' s s' : Fin 48 → EReal} (hy : y = y') (hc : c = c') (hs : s = s') (r : Fin n) :
    ropeAt hn y c s r = ropeAt hn y' c' s' r := by
  subst hy hc hs; rfl

/-- The cosine and the sine that row `j` of the table has at position `l`. -/
def cosv (p : S1x1x512.Idx → BitVec 32) (f : S48x1.Idx → EReal) (l : Fin 512) (j : Fin 48) : EReal :=
  Ideal.cos ((FloatOps.sitofp .f32 (p (ix3 0 0 l)) : Ideal .f32) * f (ix2 j 0))
def sinv (p : S1x1x512.Idx → BitVec 32) (f : S48x1.Idx → EReal) (l : Fin 512) (j : Fin 48) : EReal :=
  Ideal.sin ((FloatOps.sitofp .f32 (p (ix3 0 0 l)) : Ideal .f32) * f (ix2 j 0))

/-- What a point leaves in its three output blocks, of the scratch weights, the normalized rows, the positions and the
    frequencies: queries and keys rotated, values not. -/
def qv (t : Fin grid0.N) (W : S3456x3584.Idx → EReal) (N : S2x512x3584.Idx → EReal) (p : S1x1x512.Idx → BitVec 32) (f : S48x1.Idx → EReal) (y : S1x2688x512.Idx) : EReal :=
  ropeAt (n := 3456) (by decide) (prodAt t W N (y 2)) (cosv p f (y 2)) (sinv p f (y 2)) ⟨(y 1).val, Nat.lt_of_lt_of_le (y 1).isLt (by decide)⟩
def kv (t : Fin grid0.N) (W : S3456x3584.Idx → EReal) (N : S2x512x3584.Idx → EReal) (p : S1x1x512.Idx → BitVec 32) (f : S48x1.Idx → EReal) (y : S1x384x512.Idx) : EReal :=
  ropeAt (n := 3456) (by decide) (prodAt t W N (y 2)) (cosv p f (y 2)) (sinv p f (y 2)) ⟨2688 + (y 1).val, Nat.lt_of_lt_of_le (Nat.add_lt_add_left (y 1).isLt 2688) (by decide)⟩
def vv (t : Fin grid0.N) (W : S3456x3584.Idx → EReal) (N : S2x512x3584.Idx → EReal) (y : S1x384x512.Idx) : EReal :=
  weaveAt (n := 3456) (by decide) (prodAt t W N (y 2)) ⟨3072 + (y 1).val, Nat.lt_of_lt_of_le (Nat.add_lt_add_left (y 1).isLt 3072) (by decide)⟩

set_option maxHeartbeats 8000000 in
/-- The body at every later grid point: the point's block of rows is normalized into its slot, and the block of the
    point before is projected from the other slot and stored. -/
theorem run_later (c : Dev nD) (t : Fin grid0.N) (arg1 : Memref sig .tc .vmem S1x512x3584 .bf16) (harg1 : arg1.IsWhole) (arg2 : Memref sig .tc .vmem S1x3584 .f32) (harg2 : arg2.IsWhole) (arg3 : Memref sig .tc .vmem S1x1x512 .i32) (harg3 : arg3.IsWhole) (arg4 : Memref sig .tc .vmem S48x1 .f32) (harg4 : arg4.IsWhole) (arg5 : Memref sig .tc .vmem S1792x2688 .i8) (harg5 : arg5.IsWhole) (arg6 : Memref sig .tc .vmem S112x2688 .bf16) (harg6 : arg6.IsWhole) (arg7 : Memref sig .tc .vmem S1792x384 .i8) (harg7 : arg7.IsWhole) (arg8 : Memref sig .tc .vmem S112x384 .bf16) (harg8 : arg8.IsWhole) (arg9 : Memref sig .tc .vmem S1792x384 .i8) (harg9 : arg9.IsWhole) (arg10 : Memref sig .tc .vmem S112x384 .bf16) (harg10 : arg10.IsWhole) (arg11 : Memref sig .tc .vmem S1x2688x512 .bf16) (harg11 : arg11.IsWhole) (arg12 : Memref sig .tc .vmem S1x384x512 .bf16) (harg12 : arg12.IsWhole) (arg13 : Memref sig .tc .vmem S1x384x512 .bf16) (harg13 : arg13.IsWhole) (arg14 : Memref sig .tc .vmem S3456x3584 .bf16) (harg14 : arg14.IsWhole) (arg15 : Memref sig .tc .vmem S2x512x3584 .bf16) (harg15 : arg15.IsWhole) (arg16 : Memref sig .tc .vmem S48x512 .f32) (harg16 : arg16.IsWhole) (arg17 : Memref sig .tc .vmem S48x512 .f32) (harg17 : arg17.IsWhole) (hc0 : ¬ k0_cond1 (grid0.coords t) = 1#1) (hc1 : k0_cond2 (grid0.coords t) = 1#1)
    (x0 : Vec Ideal S1x512x3584 .bf16) (x1 : Vec Ideal S1x3584 .f32) (x2 : Vec Ideal S1x1x512 .i32) (x3 : Vec Ideal S48x1 .f32) (x4 : Vec Ideal S1792x2688 .i8) (x5 : Vec Ideal S112x2688 .bf16) (x6 : Vec Ideal S1792x384 .i8) (x7 : Vec Ideal S112x384 .bf16) (x8 : Vec Ideal S1792x384 .i8) (x9 : Vec Ideal S112x384 .bf16) (W : S3456x3584.Idx → EReal) (N : S2x512x3584.Idx → EReal) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare W ∗ owns (c : Thread nD τ) arg15 fullShare N ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (qv t W N x2 x3) ∗ owns (c : Thread nD τ) arg12 fullShare (kv t W N x2 x3) ∗ owns (c : Thread nD τ) arg13 fullShare (vv t W N) ∗ owns (c : Thread nD τ) arg14 fullShare W ∗ (∃ d, iprop(⌜∀ l k, d (ix3 ⟨t.val % 2, by omega⟩ l k) = normed x0 x1 l k⌝ ∗ owns (c : Thread nD τ) arg15 fullShare d)) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_qkv_rope (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hf13; obtain rfl := harg15.eq_unread hf14
    sl_exec (disch := first | sl_exact hc0 | sl_exact hc1)
    sl_step
    iapply Hk
    have hN (l : Fin 512) : prodAt t (arg14.view.read (Elt Ideal) (harg14.unread W)) (arg15.view.read (Elt Ideal) (arg15.view.writes (Elt Ideal) (harg15.unread N) (pb_k0_t4 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) k0_t4_loop.trips))) l = prodAt t W N l := by
      funext r
      refine Finset.sum_congr rfl fun k _ => ?_
      refine congrArg₂ (fun a b : EReal => a * b) (congrFun hf13 _) ((x_read c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t _ _ _ _ l k).trans ?_)
      rw [if_neg (by show ¬ (t.val + 1) % 2 = t.val % 2; omega)]
      exact congrFun hf14 _
    have hC (l : Fin 512) : (fun j : Fin 48 => arg16.view.read (Elt Ideal) (arg16.view.writes (Elt Ideal) arg16.view.junk [⟨Rect.unit (s := S48x512) ![0, 0] S48x512.size inb_S48x512_S48x512_0_0, k0_pay126 (View.readAt (Elt Ideal) arg3.view (Rect.unit (s := S1x1x512) ![0, 0, 0] S1x1x512.size inb_S1x1x512_S1x1x512_0_0_0).toLoadRect (harg3.unread x2)) (View.readAt (Elt Ideal) arg4.view (Rect.unit (s := S48x1) ![0, 0] S48x1.size inb_S48x1_S48x1_0_0).toLoadRect (harg4.unread x3))⟩]) (ix2 j l)) = cosv x2 x3 l := by
      funext j
      rw [View.read_writes_full]
      refine (cos_apply _ _ j l).trans ?_
      rw [View.readAt_full, View.readAt_full, hf2, hf3]
      rfl
    have hS (l : Fin 512) : (fun j : Fin 48 => arg17.view.read (Elt Ideal) (arg17.view.writes (Elt Ideal) arg17.view.junk [⟨Rect.unit (s := S48x512) ![0, 0] S48x512.size inb_S48x512_S48x512_0_0, k0_pay127 (View.readAt (Elt Ideal) arg3.view (Rect.unit (s := S1x1x512) ![0, 0, 0] S1x1x512.size inb_S1x1x512_S1x1x512_0_0_0).toLoadRect (harg3.unread x2)) (View.readAt (Elt Ideal) arg4.view (Rect.unit (s := S48x1) ![0, 0] S48x1.size inb_S48x1_S48x1_0_0).toLoadRect (harg4.unread x3))⟩]) (ix2 j l)) = sinv x2 x3 l := by
      funext j
      rw [View.read_writes_full]
      refine (sin_apply _ _ j l).trans ?_
      rw [View.readAt_full, View.readAt_full, hf2, hf3]
      rfl
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      funext y
      obtain ⟨z, r, l, rfl⟩ : ∃ (z : Fin 1) (r : Fin 2688) (l : Fin 512), y = ix3 z r l := ⟨y 0, y 1, y 2, eq_ix3 y⟩
      obtain rfl : z = 0 := Fin.eq_zero z
      refine (q_read c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t _ hc1 _ _ _ _ _ r l).trans ?_
      exact ropeAt_congr _ (hN l) (hC l) (hS l) _
    isplitl [H11]
    · iexists _; isplitr; swap; · iexact H11
      ipureintro
      funext y
      obtain ⟨z, r, l, rfl⟩ : ∃ (z : Fin 1) (r : Fin 384) (l : Fin 512), y = ix3 z r l := ⟨y 0, y 1, y 2, eq_ix3 y⟩
      obtain rfl : z = 0 := Fin.eq_zero z
      rw [View.read_writes_full]
      refine (show _ = k0_pay133 (ropeOut (k0_pay134 (View.readAt (Elt Ideal) arg14.view (Rect.unit (s := S3456x3584) ![2688, 0] S384x3584.size inb_S3456x3584_S384x3584_2688_0).toLoadRect (harg14.unread W)) (View.readAt (Elt Ideal) arg15.view (Rect.unit (s := S2x512x3584) (k0_off132 (grid0.coords t)) S1x512x3584.size (k0_off132_inb (grid0.coords t) hc1)).toLoadRect (arg15.view.writes (Elt Ideal) (harg15.unread N) (pb_k0_t4 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) k0_t4_loop.trips)))) (View.readAt (Elt Ideal) arg16.view (Rect.unit (s := S48x512) ![0, 0] S48x512.size inb_S48x512_S48x512_0_0).toLoadRect (arg16.view.writes (Elt Ideal) arg16.view.junk [⟨Rect.unit (s := S48x512) ![0, 0] S48x512.size inb_S48x512_S48x512_0_0, k0_pay126 (View.readAt (Elt Ideal) arg3.view (Rect.unit (s := S1x1x512) ![0, 0, 0] S1x1x512.size inb_S1x1x512_S1x1x512_0_0_0).toLoadRect (harg3.unread x2)) (View.readAt (Elt Ideal) arg4.view (Rect.unit (s := S48x1) ![0, 0] S48x1.size inb_S48x1_S48x1_0_0).toLoadRect (harg4.unread x3))⟩])) (View.readAt (Elt Ideal) arg17.view (Rect.unit (s := S48x512) ![0, 0] S48x512.size inb_S48x512_S48x512_0_0).toLoadRect (arg17.view.writes (Elt Ideal) arg17.view.junk [⟨Rect.unit (s := S48x512) ![0, 0] S48x512.size inb_S48x512_S48x512_0_0, k0_pay127 (View.readAt (Elt Ideal) arg3.view (Rect.unit (s := S1x1x512) ![0, 0, 0] S1x1x512.size inb_S1x1x512_S1x1x512_0_0_0).toLoadRect (harg3.unread x2)) (View.readAt (Elt Ideal) arg4.view (Rect.unit (s := S48x1) ![0, 0] S48x1.size inb_S48x1_S48x1_0_0).toLoadRect (harg4.unread x3))⟩]))) (ix3 0 r l) from rfl).trans ?_
      refine (pay133_apply _ r l).trans ((ropeOut_apply _ _ _ r l).trans ?_)
      refine (ropeAt_block (n := 3456) (by decide) 2688 (by omega) (by omega) _ _
        (fun r => prod_read arg14 arg15 t 2688 (by omega) rfl (off132 t) inb_S3456x3584_S384x3584_2688_0 (k0_off132_inb _ hc1) _ _ r l) _ _ r).trans ?_
      exact ropeAt_congr _ (hN l) ((funext fun j => whole48 _ j l).trans (hC l)) ((funext fun j => whole48 _ j l).trans (hS l)) _
    isplitl [H12]
    · iexists _; isplitr; swap; · iexact H12
      ipureintro
      funext y
      obtain ⟨z, r, l, rfl⟩ : ∃ (z : Fin 1) (r : Fin 384) (l : Fin 512), y = ix3 z r l := ⟨y 0, y 1, y 2, eq_ix3 y⟩
      obtain rfl : z = 0 := Fin.eq_zero z
      rw [View.read_writes_full]
      refine (show _ = k0_pay7 (weaveOut (k0_pay134 (View.readAt (Elt Ideal) arg14.view (Rect.unit (s := S3456x3584) ![3072, 0] S384x3584.size inb_S3456x3584_S384x3584_3072_0).toLoadRect (harg14.unread W)) (View.readAt (Elt Ideal) arg15.view (Rect.unit (s := S2x512x3584) (k0_off132 (grid0.coords t)) S1x512x3584.size (k0_off132_inb (grid0.coords t) hc1)).toLoadRect (arg15.view.writes (Elt Ideal) (harg15.unread N) (pb_k0_t4 (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) k0_t4_loop.trips))))) (ix3 0 r l) from rfl).trans ?_
      refine (pay7_apply _ r l).trans ((weaveOut_apply _ r l).trans ?_)
      refine (weaveAt_block (n := 3456) (by decide) 3072 (by omega) (by omega) _ _
        (fun r => prod_read arg14 arg15 t 3072 (by omega) rfl (off132 t) inb_S3456x3584_S384x3584_3072_0 (k0_off132_inb _ hc1) _ _ r l) r).trans ?_
      exact congrArg (fun (y : Fin 3456 → EReal) => weaveAt (n := 3456) (by decide) y ⟨3072 + r.val, by omega⟩) (hN l)
    isplitl [H13]
    · iexists _; isplitr; · ipureintro; exact harg14.read_unread _
      iexact H13
    isplitl [H14]
    · iexists _; isplitr; swap
      · iexists _; isplitr; swap; · iexact H14
        ipureintro; rfl
      ipureintro
      intro l k
      refine (x_read c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t _ _ _ ⟨t.val % 2, by omega⟩ l k).trans ?_
      rw [if_pos rfl]
      simp only [Memref.IsWhole.read_unread]
    isplitl [H15]
    · iexists _, _; isplitr; swap; · iexact H15
      ipureintro; rfl
    iexists _, _; isplitr; swap; · iexact H16
    ipureintro; rfl

end Cert.KernelIdeal.Val

end
-- ==== Proof.KernelIdeal.Value.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix
public import Idealize.ShloMosaic.Lib.Pipeline.FrameBody
public import Idealize.ShloMosaic.Lib.BitcastFour
public import Idealize.ShloMosaic.Lib.Pointwise
public import proofs.«01_k».proof.Proof.KernelIdeal.Weights
public import proofs.«01_k».proof.Proof.KernelIdeal.ValueRunA
public import proofs.«01_k».proof.Proof.KernelIdeal.ValueRunB

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- No input window is ever idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl

/-- Each window's staging memref at a point. -/
abbrev ms0 (t : Fin cfg0.N) : Memref sig .tc .vmem S1x512x3584 .bf16 := win0_0.stage (cfg0.slots t 0)
abbrev ms1 (t : Fin cfg0.N) : Memref sig .tc .vmem S1x3584 .f32 := win0_1.stage (cfg0.slots t 1)
abbrev ms2 (t : Fin cfg0.N) : Memref sig .tc .vmem S1x1x512 .i32 := win0_2.stage (cfg0.slots t 2)
abbrev ms3 (t : Fin cfg0.N) : Memref sig .tc .vmem S48x1 .f32 := win0_3.stage (cfg0.slots t 3)
abbrev ms4 (t : Fin cfg0.N) : Memref sig .tc .vmem S1792x2688 .i8 := win0_4.stage (cfg0.slots t 4)
abbrev ms5 (t : Fin cfg0.N) : Memref sig .tc .vmem S112x2688 .bf16 := win0_5.stage (cfg0.slots t 5)
abbrev ms6 (t : Fin cfg0.N) : Memref sig .tc .vmem S1792x384 .i8 := win0_6.stage (cfg0.slots t 6)
abbrev ms7 (t : Fin cfg0.N) : Memref sig .tc .vmem S112x384 .bf16 := win0_7.stage (cfg0.slots t 7)
abbrev ms8 (t : Fin cfg0.N) : Memref sig .tc .vmem S1792x384 .i8 := win0_8.stage (cfg0.slots t 8)
abbrev ms9 (t : Fin cfg0.N) : Memref sig .tc .vmem S112x384 .bf16 := win0_9.stage (cfg0.slots t 9)
abbrev ms10 (t : Fin cfg0.N) : Memref sig .tc .vmem S1x2688x512 .bf16 := win0_10.stage (cfg0.slots t 10)
abbrev ms11 (t : Fin cfg0.N) : Memref sig .tc .vmem S1x384x512 .bf16 := win0_11.stage (cfg0.slots t 11)
abbrev ms12 (t : Fin cfg0.N) : Memref sig .tc .vmem S1x384x512 .bf16 := win0_12.stage (cfg0.slots t 12)
/-- Scratch buffer 0. -/
abbrev sc0 : Memref sig .tc .vmem S3456x3584 .bf16 := Memref.whole cc0_scratch0
/-- Scratch buffer 1. -/
abbrev sc1 : Memref sig .tc .vmem S2x512x3584 .bf16 := Memref.whole cc0_scratch1
/-- Scratch buffer 2. -/
abbrev sc2 : Memref sig .tc .vmem S48x512 .f32 := Memref.whole cc0_scratch2
/-- Scratch buffer 3. -/
abbrev sc3 : Memref sig .tc .vmem S48x512 .f32 := Memref.whole cc0_scratch3

/-- The scratch buffers and the generator's register, as the region starts. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The first grid point, and the point before a point. -/
abbrev tz : Fin cfg0.N := ⟨0, by decide⟩
abbrev pred (t : Fin cfg0.N) : Fin cfg0.N := ⟨t.val - 1, by have := t.isLt; omega⟩

/-- The dequantized weights, as the first point leaves them in scratch. -/
def Wc (c : Dev nD) (y : S3456x3584.Idx) : EReal :=
  wspec (iblk m c 4 tz) (iblk m c 5 tz) (iblk m c 6 tz) (iblk m c 7 tz) (iblk m c 8 tz) (iblk m c 9 tz) (y 0) (y 1)
/-- The normalized rows that the point before `t` leaves in its slot. -/
def Nc (c : Dev nD) (t : Fin cfg0.N) (y : S2x512x3584.Idx) : EReal :=
  normed (iblk m c 0 (pred t)) (iblk m c 1 (pred t)) (y 1) (y 2)

/-- What holds of the two scratch arrays before point `n`. -/
def Inv0 (c : Dev nD) (n : ℕ) (d : S3456x3584.Idx → EReal) : Prop := n ≠ 0 → d = Wc m c
def Inv1 (c : Dev nD) (n : ℕ) (d : S2x512x3584.Idx → EReal) : Prop :=
  ∀ t : Fin cfg0.N, t.val + 1 = n → ∀ (l : Fin 512) (k : Fin 3584),
    d (ix3 ⟨t.val % 2, Nat.mod_lt _ (by decide)⟩ l k) = normed (iblk m c 0 t) (iblk m c 1 t) l k

def Phi (c : Dev nD) (n : ℕ) : sProp 𝕄 :=
  iprop(iprop((∃ d, iprop(⌜Inv0 m c n d⌝ ∗ owns (c : Thread nD τ) sc0 fullShare d)) ∗ (∃ d, iprop(⌜Inv1 m c n d⌝ ∗ owns (c : Thread nD τ) sc1 fullShare d)) ∗ (∃ d, owns (c : Thread nD τ) sc2 fullShare d) ∗ (∃ d, owns (c : Thread nD τ) sc3 fullShare d)) ∗ (∃ r, prngReg c r))

/-- The proof data: the arrays as the region finds them, each input buffer at its block after the body, each output
    buffer at the projection of the block before. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => qv t (Wc m c) (Nc m c t) (iblk m c 2 t) (iblk m c 3 t)
    | ⟨11, _⟩ => kv t (Wc m c) (Nc m c t) (iblk m c 2 t) (iblk m c 3 t)
    | ⟨12, _⟩ => vv t (Wc m c) (Nc m c t)
  Φ t := Phi m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the input buffers, and that it finds it there. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

theorem after10 (c : Dev nD) (t : Fin cfg0.N) : (dats m 0 c).after 10 t = qv t (Wc m c) (Nc m c t) (iblk m c 2 t) (iblk m c 3 t) := by dsimp only [dats]
theorem after11 (c : Dev nD) (t : Fin cfg0.N) : (dats m 0 c).after 11 t = kv t (Wc m c) (Nc m c t) (iblk m c 2 t) (iblk m c 3 t) := by dsimp only [dats]
theorem after12 (c : Dev nD) (t : Fin cfg0.N) : (dats m 0 c).after 12 t = vv t (Wc m c) (Nc m c t) := by dsimp only [dats]

theorem idle10 : ∀ t : Fin cfg0.N, cfg0.idle 10 (grid0.coords t) = decide (t.val = 0) := by decide +kernel
theorem noflush10 : ∀ t : Fin cfg0.N, t.val = 0 → (cfg0.win 10).flush t = false := by decide +kernel
theorem first10 (c : Dev nD) (t : Fin cfg0.N) (h0 : t.val = 0) (d) : (dats m 0 c).before 10 t d = d :=
  Dat.before_out_reset (dats m 0 c) 10 rfl t (.inl h0) d

theorem idle11 : ∀ t : Fin cfg0.N, cfg0.idle 11 (grid0.coords t) = decide (t.val = 0) := by decide +kernel
theorem noflush11 : ∀ t : Fin cfg0.N, t.val = 0 → (cfg0.win 11).flush t = false := by decide +kernel
theorem first11 (c : Dev nD) (t : Fin cfg0.N) (h0 : t.val = 0) (d) : (dats m 0 c).before 11 t d = d :=
  Dat.before_out_reset (dats m 0 c) 11 rfl t (.inl h0) d

theorem idle12 : ∀ t : Fin cfg0.N, cfg0.idle 12 (grid0.coords t) = decide (t.val = 0) := by decide +kernel
theorem noflush12 : ∀ t : Fin cfg0.N, t.val = 0 → (cfg0.win 12).flush t = false := by decide +kernel
theorem first12 (c : Dev nD) (t : Fin cfg0.N) (h0 : t.val = 0) (d) : (dats m 0 c).before 12 t d = d :=
  Dat.before_out_reset (dats m 0 c) 12 rfl t (.inl h0) d

/-- The outputs depend on the normalized rows only at the slot that the point reads. -/
theorem prodAt_congr (t : Fin grid0.N) (W : S3456x3584.Idx → EReal) (N N' : S2x512x3584.Idx → EReal)
    (h : ∀ l k, N (ix3 ⟨(t.val + 1) % 2, Nat.mod_lt _ (by decide)⟩ l k) = N' (ix3 ⟨(t.val + 1) % 2, Nat.mod_lt _ (by decide)⟩ l k)) (l : Fin 512) :
    prodAt t W N l = prodAt t W N' l := by
  funext r
  exact Finset.sum_congr rfl fun k _ => congrArg (fun b : EReal => W (ix2 r k) * b) (h l k)

theorem inv1_slot (c : Dev nD) (t : Fin cfg0.N) (h0 : ¬ t.val = 0) (N : S2x512x3584.Idx → EReal) (h : Inv1 m c t.val N) (l : Fin 512) (k : Fin 3584) :
    N (ix3 ⟨(t.val + 1) % 2, Nat.mod_lt _ (by decide)⟩ l k) = Nc m c t (ix3 ⟨(t.val + 1) % 2, Nat.mod_lt _ (by decide)⟩ l k) := by
  have e := h (pred t) (by show t.val - 1 + 1 = t.val; omega) l k
  have e' : (⟨(pred t).val % 2, Nat.mod_lt _ (by decide)⟩ : Fin 2) = ⟨(t.val + 1) % 2, Nat.mod_lt _ (by decide)⟩ :=
    Fin.ext (by show (t.val - 1) % 2 = (t.val + 1) % 2; omega)
  rw [e'] at e
  exact e

theorem qv_congr (c : Dev nD) (t : Fin cfg0.N) (h0 : ¬ t.val = 0) (N : S2x512x3584.Idx → EReal) (h : Inv1 m c t.val N) (p f) :
    qv t (Wc m c) N p f = qv t (Wc m c) (Nc m c t) p f :=
  funext fun y => ropeAt_congr _ (prodAt_congr t _ _ _ (inv1_slot m c t h0 N h) (y 2)) rfl rfl _
theorem kv_congr (c : Dev nD) (t : Fin cfg0.N) (h0 : ¬ t.val = 0) (N : S2x512x3584.Idx → EReal) (h : Inv1 m c t.val N) (p f) :
    kv t (Wc m c) N p f = kv t (Wc m c) (Nc m c t) p f :=
  funext fun y => ropeAt_congr _ (prodAt_congr t _ _ _ (inv1_slot m c t h0 N h) (y 2)) rfl rfl _
theorem vv_congr (c : Dev nD) (t : Fin cfg0.N) (h0 : ¬ t.val = 0) (N : S2x512x3584.Idx → EReal) (h : Inv1 m c t.val N) :
    vv t (Wc m c) N = vv t (Wc m c) (Nc m c t) :=
  funext fun y => congrArg (fun z : Fin 3456 → EReal => weaveAt (n := 3456) (by decide) z _) (prodAt_congr t _ _ _ (inv1_slot m c t h0 N h) (y 2))

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  iintro ⟨⟨⟨⟨%w0, %hw0, HS0⟩, ⟨%w1, %hw1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h0 : t.val = 0
  · obtain rfl : t = tz := Fin.ext h0
    rw [Dat.leavesExact_idle (dats m 0 c) 10 tz (by rw [idle10]; rfl) (noflush10 tz rfl)]
    rw [Dat.leavesExact_idle (dats m 0 c) 11 tz (by rw [idle11]; rfl) (noflush11 tz rfl)]
    rw [Dat.leavesExact_idle (dats m 0 c) 12 tz (by rw [idle12]; rfl) (noflush12 tz rfl)]
    simp only [first10 m c tz rfl, first11 m c tz rfl, first12 m c tz rfl]
    iapply (run_first c tz _ _ _ _ _ _ _ _ _ _ _ _ _ _ _ _ _ _ _ _ _ _ _ _ _ _ _ _ _ _ _ _ _ _ ((cond1_iff tz).mpr rfl) (fun h => ((cond2_iff tz).mp h) rfl) (iblk m c 0 tz) (iblk m c 1 tz) (iblk m c 2 tz) (iblk m c 3 tz) (iblk m c 4 tz) (iblk m c 5 tz) (iblk m c 6 tz) (iblk m c 7 tz) (iblk m c 8 tz) (iblk m c 9 tz) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexact HS2
    isplitl [HS3]; · iexact HS3
    iintro ⟨H0, H1, H2, H3, H4, H5, H6, H7, H8, H9, H10, H11, H12, HS0, ⟨%n, %hn, HS1⟩, HS2, HS3⟩
    isplitl [HS0 HS1 HS2 HS3 Hg]
    · isplitl [HS0 HS1 HS2 HS3]
      · isplitl [HS0]
        · iexists _; isplitr; swap; · iexact HS0
          ipureintro; intro _; rfl
        isplitl [HS1]
        · iexists _; isplitr; swap; · iexact HS1
          ipureintro; intro u hu l k
          obtain rfl : u = tz := Fin.ext (Nat.succ_injective hu)
          exact hn l k
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · obtain rfl := hw0 h0
    rw [show (dats m 0 c).leavesExact 10 t = owns (c : Thread nD τ) (ms10 t) fullShare ((dats m 0 c).after 10 t) from by
      unfold Dat.leavesExact; rw [idle10 t, decide_eq_false h0], after10]
    rw [show (dats m 0 c).leavesExact 11 t = owns (c : Thread nD τ) (ms11 t) fullShare ((dats m 0 c).after 11 t) from by
      unfold Dat.leavesExact; rw [idle11 t, decide_eq_false h0], after11]
    rw [show (dats m 0 c).leavesExact 12 t = owns (c : Thread nD τ) (ms12 t) fullShare ((dats m 0 c).after 12 t) from by
      unfold Dat.leavesExact; rw [idle12 t, decide_eq_false h0], after12]
    iapply (run_later c t _ _ _ _ _ _ _ _ _ _ _ _ _ _ _ _ _ _ _ _ _ _ _ _ _ _ _ _ _ _ _ _ _ _ (fun h => h0 ((cond1_iff t).mp h)) ((cond2_iff t).mpr h0) (iblk m c 0 t) (iblk m c 1 t) (iblk m c 2 t) (iblk m c 3 t) (iblk m c 4 t) (iblk m c 5 t) (iblk m c 6 t) (iblk m c 7 t) (iblk m c 8 t) (iblk m c 9 t) (Wc m c) w1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    rw [qv_congr m c t h0 w1 hw1, kv_congr m c t h0 w1 hw1, vv_congr m c t h0 w1 hw1]
    iintro ⟨H0, H1, H2, H3, H4, H5, H6, H7, H8, H9, H10, H11, H12, HS0, ⟨%n, %hn, HS1⟩, HS2, HS3⟩
    isplitl [HS0 HS1 HS2 HS3 Hg]
    · isplitl [HS0 HS1 HS2 HS3]
      · isplitl [HS0]
        · iexists _; isplitr; swap; · iexact HS0
          ipureintro; intro _; rfl
        isplitl [HS1]
        · iexists _; isplitr; swap; · iexact HS1
          ipureintro; intro u hu l k
          obtain rfl : u = t := Fin.ext (Nat.succ_injective hu)
          exact hn l k
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at a point's slots is the body there. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The invariant holds as the region starts, and is the region's own at the end. -/
theorem phi_in (c : Dev nD) : Pipeline.ΦA spec0 c ⊢ (dats m 0 c).Φ 0 := by
  rw [PhiA_eq, show (dats m 0 c).Φ 0 = Phi m c 0 from rfl]
  unfold Phi
  iintro ⟨⟨⟨%d0, H0⟩, ⟨%d1, H1⟩, H2, H3⟩, Hg⟩
  isplitl [H0 H1 H2 H3]
  · isplitl [H0]
    · iexists _; isplitr; swap; · iexact H0
      ipureintro; intro h; exact absurd rfl h
    isplitl [H1]
    · iexists _; isplitr; swap; · iexact H1
      ipureintro; intro u hu; exact absurd hu (Nat.succ_ne_zero _)
    isplitl [H2]; · iexact H2
    iexact H3
  iexact Hg
theorem phi_out (c : Dev nD) : (dats m 0 c).Φ (Fin.last cfg0.N) ⊢ Pipeline.ΦA spec0 c := by
  rw [PhiA_eq, show (dats m 0 c).Φ (Fin.last cfg0.N) = Phi m c cfg0.N from rfl]
  unfold Phi
  iintro ⟨⟨⟨%d0, -, H0⟩, ⟨%d1, -, H1⟩, H2, H3⟩, Hg⟩
  isplitl [H0 H1 H2 H3]
  · isplitl [H0]; · iexists _; iexact H0
    isplitl [H1]; · iexists _; iexact H1
    isplitl [H2]; · iexact H2
    iexact H3
  iexact Hg

-- the run theorem's implicit arguments are found by unfolding plain definitions in a metavariable's type
set_option backward.isDefEq.respectTransparency.types false in
set_option maxHeartbeats 800000 in
/-- The run: every array ends at what the proof data says of it, every other buffer at what the lines after the region
    make of that. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

end Cert.KernelIdeal.Val

end
-- ==== Proof.Spec.lean ====
module

public import Idealize.ShloMosaic.Lib.Pipeline.ValueKit

@[expose] public section

set_option maxRecDepth 16384

noncomputable section

/-! What both programs compute, over the extended reals: a normalization, a projection through weights of four bits
under one scale per thirty-two channels, and a rotation of adjacent pairs. -/

namespace Cert.Spec

open Idealize.ShloMosaic

/-- Nibble `h` of a packed byte (0 the low one, 1 the high one) less eight. -/
def nib (b : BitVec 8) (h : ℕ) : EReal := (((b.toNat / 16 ^ h % 16 : ℕ) : ℝ) : EReal) - Ideal.ofBits .bf16 0x4100#16

/-- The normalized activation of batch `b`, position `s`, channel `k`. -/
def xn (X : (⟨3, ![24, 512, 3584]⟩ : Shape).Idx → EReal) (w : (⟨1, ![3584]⟩ : Shape).Idx → EReal) (b : Fin 24) (s : Fin 512) (k : Fin 3584) : EReal :=
  X (ix3 b s k) * Ideal.rsqrt ((∑ x, X (ix3 b s x) * X (ix3 b s x)) * ((1 / 3584 : ℝ) : EReal) + Ideal.ofBits .f32 0x358637BD#32) * w (ix1 k)

/-- The weight of output `o` for channel `k`: its nibble less eight, times its group's scale. -/
def wt {n : ℕ} (P : (⟨3, ![n, 112, 16]⟩ : Shape).Idx → BitVec 8) (S : (⟨2, ![n, 112]⟩ : Shape).Idx → EReal) (o : Fin n) (k : Fin 3584) : EReal :=
  nib (P (ix3 o ⟨k.val / 32, by omega⟩ ⟨k.val % 16, by omega⟩)) (k.val % 32 / 16) * S (ix2 o ⟨k.val / 32, by omega⟩)

/-- Output `o` of the projection at batch `b`, position `s`. -/
def proj {n : ℕ} (X : (⟨3, ![24, 512, 3584]⟩ : Shape).Idx → EReal) (w : (⟨1, ![3584]⟩ : Shape).Idx → EReal)
    (P : (⟨3, ![n, 112, 16]⟩ : Shape).Idx → BitVec 8) (S : (⟨2, ![n, 112]⟩ : Shape).Idx → EReal) (b : Fin 24) (s : Fin 512) (o : Fin n) : EReal :=
  ∑ k, wt P S o k * xn X w b s k

/-- The angle of batch `b`, position `s`, frequency `j`. -/
def ang (f : Fin 48 → BitVec 32) (p : (⟨2, ![24, 512]⟩ : Shape).Idx → BitVec 32) (b : Fin 24) (s : Fin 512) (j : Fin 48) : EReal :=
  (((p (ix2 b s)).toInt : ℝ) : EReal) * Ideal.ofBits .f32 (f j)

/-- Entry `o` of the rotated heads, ninety-six entries each, adjacent entries rotated together. -/
def rope {n : ℕ} (hn : n % 2 = 0) (y : Fin n → EReal) (a : Fin 48 → EReal) (o : Fin n) : EReal :=
  if o.val % 2 = 0 then
    y ⟨o.val - o.val % 2, by omega⟩ * Ideal.cos (a ⟨o.val % 96 / 2, by omega⟩) - y ⟨o.val - o.val % 2 + 1, by omega⟩ * Ideal.sin (a ⟨o.val % 96 / 2, by omega⟩)
  else
    y ⟨o.val - o.val % 2, by omega⟩ * Ideal.sin (a ⟨o.val % 96 / 2, by omega⟩) + y ⟨o.val - o.val % 2 + 1, by omega⟩ * Ideal.cos (a ⟨o.val % 96 / 2, by omega⟩)

/-- A sum over the channels, split into the two halves of each group of thirty-two. -/
theorem sum_halves (f : Fin 3584 → EReal) :
    ∑ k, f k = (∑ g : Fin 112, ∑ j : Fin 16, f ⟨g.val * 32 + j.val, by omega⟩) + ∑ g : Fin 112, ∑ j : Fin 16, f ⟨g.val * 32 + 16 + j.val, by omega⟩ := by
  rw [← Finset.sum_add_distrib, ← (finProdFinEquiv (m := 112) (n := 32)).sum_comp, Fintype.sum_prod_type]
  refine Finset.sum_congr rfl fun g _ => ?_
  rw [Fin.sum_univ_add (a := 16) (b := 16)]
  refine congrArg₂ (· + ·) (Finset.sum_congr rfl fun j _ => congrArg f (Fin.ext ?_)) (Finset.sum_congr rfl fun j _ => congrArg f (Fin.ext ?_))
  · simp [finProdFinEquiv]; omega
  · simp [finProdFinEquiv]; omega

/-- The mean's divisor. -/
theorem div_width (x : EReal) : Ideal.div x (Ideal.ofBits .f32 0x45600000#32) = x * ((1 / 3584 : ℝ) : EReal) := by
  have : Ideal.ofBits .f32 0x45600000#32 = ((3584 : ℝ) : EReal) := by
    simp [Ideal.ofBits, Ideal.ieee, -EReal.coe_mul]; norm_num
  rw [this]
  exact Ideal.div_coe (by norm_num) x

/-- The low nibble through a widening to thirty-two bits. -/
theorem nib_lo (b : BitVec 8) :
    (FloatOps.sitofp .bf16 (IntOp.andi (b.setWidth 32) 15#32) : Ideal .bf16) - Ideal.ofBits .bf16 0x4100#16 = nib b 0 := by
  have : ∀ b : BitVec 8, (b.setWidth 32 &&& 15#32).toInt = ((b.toNat / 16 ^ 0 % 16 : ℕ) : ℤ) := by decide +kernel
  show ((((b.setWidth 32 &&& 15#32).toInt : ℝ)) : EReal) - _ = _
  rw [this, nib]
  norm_cast

/-- The high nibble through a widening to thirty-two bits. -/
theorem nib_hi (b : BitVec 8) :
    (FloatOps.sitofp .bf16 (IntOp.shrsi ArithUnit.host (b.setWidth 32) 4#32) : Ideal .bf16) - Ideal.ofBits .bf16 0x4100#16 = nib b 1 := by
  have : ∀ b : BitVec 8, ((b.setWidth 32).sshiftRight' 4#32).toInt = ((b.toNat / 16 ^ 1 % 16 : ℕ) : ℤ) := by decide +kernel
  show (((((b.setWidth 32).sshiftRight' 4#32).toInt : ℝ)) : EReal) - _ = _
  rw [this, nib]
  norm_cast

end Cert.Spec
-- ==== Proof.KernelIdeal.Result.lean ====
module

public import proofs.«01_k».proof.Proof.KernelIdeal.Value
public import proofs.«01_k».proof.Proof.Spec
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window BodyObligation cellOf)

variable (m : (ℓ : Loc nD τ sig) → Buf (Elt Ideal) ℓ) (ρ : Dev nD → PrngReg)

/-- The frequencies' bit patterns. -/
def freq (j : Fin 48) : BitVec 32 := lit0 (S48.rowMajor (ix1 j))

/-! The window index of every block, by grid point. -/

theorem idx0 : ∀ t : Fin grid0.N, win0_0.index t = ![min t.val 23, 0, 0] := by decide +kernel
theorem idx1 : ∀ t : Fin grid0.N, win0_1.index t = ![0, 0] := by decide +kernel
theorem idx2 : ∀ t : Fin grid0.N, win0_2.index t = ![t.val - 1, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![t.val - 1, 0, 0] := by decide +kernel
theorem idx11 : ∀ t : Fin grid0.N, win0_11.index t = ![t.val - 1, 0, 0] := by decide +kernel
theorem idx12 : ∀ t : Fin grid0.N, win0_12.index t = ![t.val - 1, 0, 0] := by decide +kernel
theorem later10 : ∀ t : Fin grid0.N, (cfg0.win 10).flush t = true → t.val ≠ 0 := by decide +kernel
theorem later11 : ∀ t : Fin grid0.N, (cfg0.win 11).flush t = true → t.val ≠ 0 := by decide +kernel
theorem later12 : ∀ t : Fin grid0.N, (cfg0.win 12).flush t = true → t.val ≠ 0 := by decide +kernel

/-! The operands that the host lines before the region prepare, and the blocks that a grid point holds of them, read
    from the arguments. -/

theorem entry1 (c : Dev nD) (k : Fin 3584) : V m c main_v9 (ix2 0 k) = (m ((c.tc : Thread nD τ).loc main_arg1)) (ix1 k) := by
  show StableHlo.after (List.flatten [hostOps0]) _ _ _ = _
  simp only [hostOps0, List.flatten_cons, List.flatten_nil, List.append_nil]
  after_results_simp
  pointwise
theorem entry3 (c : Dev nD) (j : Fin 48) : V m c main_v10 (ix2 j 0) = Ideal.ofBits .f32 (lit0 (S48.rowMajor (ix1 j))) := by
  show StableHlo.after (List.flatten [hostOps0]) _ _ _ = _
  simp only [hostOps0, List.flatten_cons, List.flatten_nil, List.append_nil]
  after_results_simp
  pointwise
theorem entry4 (c : Dev nD) (a : Fin 1792) (q : Fin 2688) : V m c main_v1 (ix2 a q) = (m ((c.tc : Thread nD τ).loc main_arg3)) (ix3 q ⟨a.val / 16, by omega⟩ ⟨a.val % 16, by omega⟩) := by
  show StableHlo.after (List.flatten [hostOps0]) _ _ _ = _
  simp only [hostOps0, List.flatten_cons, List.flatten_nil, List.append_nil]
  after_results_simp
  pointwise
theorem entry5 (c : Dev nD) (a : Fin 112) (q : Fin 2688) : V m c main_v2 (ix2 a q) = (m ((c.tc : Thread nD τ).loc main_arg4)) (ix2 q a) := by
  show StableHlo.after (List.flatten [hostOps0]) _ _ _ = _
  simp only [hostOps0, List.flatten_cons, List.flatten_nil, List.append_nil]
  after_results_simp
  pointwise
theorem entry6 (c : Dev nD) (a : Fin 1792) (q : Fin 384) : V m c main_v4 (ix2 a q) = (m ((c.tc : Thread nD τ).loc main_arg5)) (ix3 q ⟨a.val / 16, by omega⟩ ⟨a.val % 16, by omega⟩) := by
  show StableHlo.after (List.flatten [hostOps0]) _ _ _ = _
  simp only [hostOps0, List.flatten_cons, List.flatten_nil, List.append_nil]
  after_results_simp
  pointwise
theorem entry7 (c : Dev nD) (a : Fin 112) (q : Fin 384) : V m c main_v5 (ix2 a q) = (m ((c.tc : Thread nD τ).loc main_arg6)) (ix2 q a) := by
  show StableHlo.after (List.flatten [hostOps0]) _ _ _ = _
  simp only [hostOps0, List.flatten_cons, List.flatten_nil, List.append_nil]
  after_results_simp
  pointwise
theorem entry8 (c : Dev nD) (a : Fin 1792) (q : Fin 384) : V m c main_v7 (ix2 a q) = (m ((c.tc : Thread nD τ).loc main_arg7)) (ix3 q ⟨a.val / 16, by omega⟩ ⟨a.val % 16, by omega⟩) := by
  show StableHlo.after (List.flatten [hostOps0]) _ _ _ = _
  simp only [hostOps0, List.flatten_cons, List.flatten_nil, List.append_nil]
  after_results_simp
  pointwise
theorem entry9 (c : Dev nD) (a : Fin 112) (q : Fin 384) : V m c main_v8 (ix2 a q) = (m ((c.tc : Thread nD τ).loc main_arg8)) (ix2 q a) := by
  show StableHlo.after (List.flatten [hostOps0]) _ _ _ = _
  simp only [hostOps0, List.flatten_cons, List.flatten_nil, List.append_nil]
  after_results_simp
  pointwise
theorem entry2 (c : Dev nD) (b : Fin 24) (l : Fin 512) : V m c main_v11 (ix3 b 0 l) = (m ((c.tc : Thread nD τ).loc main_arg2)) (ix2 b l) := by
  show StableHlo.after (List.flatten [hostOps0]) _ _ _ = _
  simp only [hostOps0, List.flatten_cons, List.flatten_nil, List.append_nil]
  after_results_simp
  pointwise

theorem blk0 (c : Dev nD) (t : Fin cfg0.N) (l : Fin 512) (k : Fin 3584) :
    iblk m c 0 t (ix3 0 l k) = (m ((c.tc : Thread nD τ).loc main_arg0)) (ix3 ⟨min t.val 23, by omega⟩ l k) := by
  blk_ext [iblk, V, idx0 t]
theorem blk2 (c : Dev nD) (t : Fin cfg0.N) (l : Fin 512) :
    iblk m c 2 t (ix3 0 0 l) = (m ((c.tc : Thread nD τ).loc main_arg2)) (ix2 ⟨t.val - 1, by have := t.isLt; change t.val < 25 at this; omega⟩ l) := by
  refine Eq.trans (b := V m c main_v11 (ix3 ⟨t.val - 1, by have := t.isLt; change t.val < 25 at this; omega⟩ 0 l)) ?_ (entry2 m c _ l)
  blk_ext [iblk, idx2 t]
theorem blk1 (c : Dev nD) (t : Fin cfg0.N) (k : Fin 3584) : iblk m c 1 t (ix2 0 k) = (m ((c.tc : Thread nD τ).loc main_arg1)) (ix1 k) := by
  refine Eq.trans (b := V m c main_v9 (ix2 0 k)) ?_ (entry1 m c k)
  blk_ext [iblk, idx1 t]
theorem blk3 (c : Dev nD) (t : Fin cfg0.N) (j : Fin 48) : iblk m c 3 t (ix2 j 0) = Ideal.ofBits .f32 (lit0 (S48.rowMajor (ix1 j))) := by
  refine Eq.trans (b := V m c main_v10 (ix2 j 0)) ?_ (entry3 m c j)
  blk_ext [iblk, idx3 t]
theorem blk4 (c : Dev nD) (t : Fin cfg0.N) (a : Fin 1792) (q : Fin 2688) : iblk m c 4 t (ix2 a q) = (m ((c.tc : Thread nD τ).loc main_arg3)) (ix3 q ⟨a.val / 16, by omega⟩ ⟨a.val % 16, by omega⟩) := by
  refine Eq.trans (b := V m c main_v1 (ix2 a q)) ?_ (entry4 m c a q)
  blk_ext [iblk, idx4 t]
theorem blk5 (c : Dev nD) (t : Fin cfg0.N) (a : Fin 112) (q : Fin 2688) : iblk m c 5 t (ix2 a q) = (m ((c.tc : Thread nD τ).loc main_arg4)) (ix2 q a) := by
  refine Eq.trans (b := V m c main_v2 (ix2 a q)) ?_ (entry5 m c a q)
  blk_ext [iblk, idx5 t]
theorem blk6 (c : Dev nD) (t : Fin cfg0.N) (a : Fin 1792) (q : Fin 384) : iblk m c 6 t (ix2 a q) = (m ((c.tc : Thread nD τ).loc main_arg5)) (ix3 q ⟨a.val / 16, by omega⟩ ⟨a.val % 16, by omega⟩) := by
  refine Eq.trans (b := V m c main_v4 (ix2 a q)) ?_ (entry6 m c a q)
  blk_ext [iblk, idx6 t]
theorem blk7 (c : Dev nD) (t : Fin cfg0.N) (a : Fin 112) (q : Fin 384) : iblk m c 7 t (ix2 a q) = (m ((c.tc : Thread nD τ).loc main_arg6)) (ix2 q a) := by
  refine Eq.trans (b := V m c main_v5 (ix2 a q)) ?_ (entry7 m c a q)
  blk_ext [iblk, idx7 t]
theorem blk8 (c : Dev nD) (t : Fin cfg0.N) (a : Fin 1792) (q : Fin 384) : iblk m c 8 t (ix2 a q) = (m ((c.tc : Thread nD τ).loc main_arg7)) (ix3 q ⟨a.val / 16, by omega⟩ ⟨a.val % 16, by omega⟩) := by
  refine Eq.trans (b := V m c main_v7 (ix2 a q)) ?_ (entry8 m c a q)
  blk_ext [iblk, idx8 t]
theorem blk9 (c : Dev nD) (t : Fin cfg0.N) (a : Fin 112) (q : Fin 384) : iblk m c 9 t (ix2 a q) = (m ((c.tc : Thread nD τ).loc main_arg8)) (ix2 q a) := by
  refine Eq.trans (b := V m c main_v8 (ix2 a q)) ?_ (entry9 m c a q)
  blk_ext [iblk, idx9 t]

/-! The rows of the scratch weights, and of their products, by the matrix they come from. -/

theorem weight_q (c : Dev nD) (r : Fin 2688) (k : Fin 3584) :
    Wc m c (ix2 ⟨0 + r.val, by omega⟩ k) = Spec.wt (m ((c.tc : Thread nD τ).loc main_arg3)) (m ((c.tc : Thread nD τ).loc main_arg4)) ⟨src r.val, src_lt (n := 168) r.isLt⟩ k := by
  show wspec _ _ _ _ _ _ (⟨0 + r.val, by omega⟩ : Fin 3456) k = _
  unfold wspec
  have h1 : 0 + r.val < 2688 := by omega
  refine (dif_pos h1).trans ?_
  have e : 0 + r.val = r.val := by omega
  have e1 : (16 * (k.val / 32) + k.val % 16) / 16 = k.val / 32 := by omega
  have e2 : (16 * (k.val / 32) + k.val % 16) % 16 = k.val % 16 := by omega
  simp only [wval, blk4, blk5, e, e1, e2]
  rfl

theorem weight_k (c : Dev nD) (r : Fin 384) (k : Fin 3584) :
    Wc m c (ix2 ⟨2688 + r.val, by omega⟩ k) = Spec.wt (m ((c.tc : Thread nD τ).loc main_arg5)) (m ((c.tc : Thread nD τ).loc main_arg6)) ⟨src r.val, src_lt (n := 24) r.isLt⟩ k := by
  show wspec _ _ _ _ _ _ (⟨2688 + r.val, by omega⟩ : Fin 3456) k = _
  unfold wspec
  have h1 : ¬ 2688 + r.val < 2688 := by omega
  have h2 : 2688 + r.val < 3072 := by omega
  refine (dif_neg h1).trans ((dif_pos h2).trans ?_)
  have e : 2688 + r.val - 2688 = r.val := by omega
  have e1 : (16 * (k.val / 32) + k.val % 16) / 16 = k.val / 32 := by omega
  have e2 : (16 * (k.val / 32) + k.val % 16) % 16 = k.val % 16 := by omega
  simp only [wval, blk6, blk7, e, e1, e2]
  rfl

theorem weight_v (c : Dev nD) (r : Fin 384) (k : Fin 3584) :
    Wc m c (ix2 ⟨3072 + r.val, by omega⟩ k) = Spec.wt (m ((c.tc : Thread nD τ).loc main_arg7)) (m ((c.tc : Thread nD τ).loc main_arg8)) ⟨src r.val, src_lt (n := 24) r.isLt⟩ k := by
  show wspec _ _ _ _ _ _ (⟨3072 + r.val, by omega⟩ : Fin 3456) k = _
  unfold wspec
  have h1 : ¬ 3072 + r.val < 2688 := by omega
  have h2 : ¬ 3072 + r.val < 3072 := by omega
  refine (dif_neg h1).trans ((dif_neg h2).trans ?_)
  have e : 3072 + r.val - 3072 = r.val := by omega
  have e1 : (16 * (k.val / 32) + k.val % 16) / 16 = k.val / 32 := by omega
  have e2 : (16 * (k.val / 32) + k.val % 16) % 16 = k.val % 16 := by omega
  simp only [wval, blk8, blk9, e, e1, e2]
  rfl

/-- The normalized rows that a later point reads. -/
theorem rows_at (c : Dev nD) (t : Fin cfg0.N) (h0 : t.val ≠ 0) (s : Fin 2) (l : Fin 512) (k : Fin 3584) :
    Nc m c t (ix3 s l k) = Spec.xn (m ((c.tc : Thread nD τ).loc main_arg0)) (m ((c.tc : Thread nD τ).loc main_arg1)) ⟨t.val - 1, by have := t.isLt; change t.val < 25 at this; omega⟩ l k := by
  show normed _ _ l k = _
  have ht := t.isLt
  change t.val < 25 at ht
  have e : min (t.val - 1) 23 = t.val - 1 := by omega
  simp only [normed, blk0, blk1, e]
  rfl

theorem prod_q (c : Dev nD) (t : Fin cfg0.N) (h0 : t.val ≠ 0) (l : Fin 512) (r : Fin 2688) :
    prodAt t (Wc m c) (Nc m c t) l ⟨0 + r.val, by omega⟩
      = Spec.proj (m ((c.tc : Thread nD τ).loc main_arg0)) (m ((c.tc : Thread nD τ).loc main_arg1)) (m ((c.tc : Thread nD τ).loc main_arg3)) (m ((c.tc : Thread nD τ).loc main_arg4)) ⟨t.val - 1, by have := t.isLt; change t.val < 25 at this; omega⟩ l ⟨src r.val, src_lt (n := 168) r.isLt⟩ := by
  unfold prodAt Spec.proj
  refine Finset.sum_congr rfl fun k _ => ?_
  rw [weight_q, rows_at m c t h0]

theorem prod_k (c : Dev nD) (t : Fin cfg0.N) (h0 : t.val ≠ 0) (l : Fin 512) (r : Fin 384) :
    prodAt t (Wc m c) (Nc m c t) l ⟨2688 + r.val, by omega⟩
      = Spec.proj (m ((c.tc : Thread nD τ).loc main_arg0)) (m ((c.tc : Thread nD τ).loc main_arg1)) (m ((c.tc : Thread nD τ).loc main_arg5)) (m ((c.tc : Thread nD τ).loc main_arg6)) ⟨t.val - 1, by have := t.isLt; change t.val < 25 at this; omega⟩ l ⟨src r.val, src_lt (n := 24) r.isLt⟩ := by
  unfold prodAt Spec.proj
  refine Finset.sum_congr rfl fun k _ => ?_
  rw [weight_k, rows_at m c t h0]

theorem prod_v (c : Dev nD) (t : Fin cfg0.N) (h0 : t.val ≠ 0) (l : Fin 512) (r : Fin 384) :
    prodAt t (Wc m c) (Nc m c t) l ⟨3072 + r.val, by omega⟩
      = Spec.proj (m ((c.tc : Thread nD τ).loc main_arg0)) (m ((c.tc : Thread nD τ).loc main_arg1)) (m ((c.tc : Thread nD τ).loc main_arg7)) (m ((c.tc : Thread nD τ).loc main_arg8)) ⟨t.val - 1, by have := t.isLt; change t.val < 25 at this; omega⟩ l ⟨src r.val, src_lt (n := 24) r.isLt⟩ := by
  unfold prodAt Spec.proj
  refine Finset.sum_congr rfl fun k _ => ?_
  rw [weight_v, rows_at m c t h0]

/-- The rotation of reordered rows is the rotation of adjacent rows in their own order. -/
theorem ropeAt_spec {n b : ℕ} (hn : n % 16 = 0) (hb : b % 96 = 0) (hle : b + n ≤ 3456) (y : Fin 3456 → EReal) (z : Fin n → EReal) (c s a : Fin 48 → EReal)
    (hy : ∀ r : Fin n, y ⟨b + r.val, by omega⟩ = z ⟨src r.val, by have := r.isLt; unfold src; omega⟩)
    (hc : ∀ j, c j = Ideal.cos (a j)) (hs : ∀ j, s j = Ideal.sin (a j)) (r : Fin n) :
    ropeAt (n := 3456) (by decide) y c s ⟨b + r.val, by omega⟩ = Spec.rope (by omega) z a r := by
  have hr := r.isLt
  have ye : ∀ i : Fin 3456, i.val = 16 * ((b + r.val) / 16) + (b + r.val) % 16 / 2 → y i = z ⟨r.val - r.val % 2, by omega⟩ := fun i hi => by
    have e : i = ⟨b + (16 * (r.val / 16) + r.val % 16 / 2), by omega⟩ := Fin.ext (by simp only; omega)
    rw [e, hy ⟨16 * (r.val / 16) + r.val % 16 / 2, by omega⟩]
    exact congrArg z (Fin.ext (by simp only [src]; omega))
  have yf : ∀ i : Fin 3456, i.val = 16 * ((b + r.val) / 16) + 8 + (b + r.val) % 16 / 2 → y i = z ⟨r.val - r.val % 2 + 1, by omega⟩ := fun i hi => by
    have e : i = ⟨b + (16 * (r.val / 16) + 8 + r.val % 16 / 2), by omega⟩ := Fin.ext (by simp only; omega)
    rw [e, hy ⟨16 * (r.val / 16) + 8 + r.val % 16 / 2, by omega⟩]
    exact congrArg z (Fin.ext (by simp only [src]; omega))
  have hj : (⟨8 * ((b + r.val) / 16 % 6) + (b + r.val) % 16 / 2, by omega⟩ : Fin 48) = ⟨r.val % 96 / 2, by omega⟩ := Fin.ext (by simp only; omega)
  unfold ropeAt Spec.rope
  simp only [hc, hs]
  rw [ye _ rfl, yf _ rfl, hj]
  have hp : (b + r.val) % 2 = r.val % 2 := by omega
  simp only [hp]

/-- The reweaving of reordered rows is the rows in their own order. -/
theorem weaveAt_spec {n b : ℕ} (hn : n % 16 = 0) (hb : b % 96 = 0) (hle : b + n ≤ 3456) (y : Fin 3456 → EReal) (z : Fin n → EReal)
    (hy : ∀ r : Fin n, y ⟨b + r.val, by omega⟩ = z ⟨src r.val, by have := r.isLt; unfold src; omega⟩) (r : Fin n) :
    weaveAt (n := 3456) (by decide) y ⟨b + r.val, by omega⟩ = z r := by
  have hr := r.isLt
  unfold weaveAt
  have hp : (b + r.val) % 2 = r.val % 2 := by omega
  simp only [hp]
  by_cases h : r.val % 2 = 0
  · rw [if_pos h]
    have e : (⟨16 * ((b + r.val) / 16) + (b + r.val) % 16 / 2, by omega⟩ : Fin 3456) = ⟨b + (16 * (r.val / 16) + r.val % 16 / 2), by omega⟩ := Fin.ext (by simp only; omega)
    rw [e, hy ⟨16 * (r.val / 16) + r.val % 16 / 2, by omega⟩]
    exact congrArg z (Fin.ext (by simp only [src]; omega))
  · rw [if_neg h]
    have e : (⟨16 * ((b + r.val) / 16) + 8 + (b + r.val) % 16 / 2, by omega⟩ : Fin 3456) = ⟨b + (16 * (r.val / 16) + 8 + r.val % 16 / 2), by omega⟩ := Fin.ext (by simp only; omega)
    rw [e, hy ⟨16 * (r.val / 16) + 8 + r.val % 16 / 2, by omega⟩]
    exact congrArg z (Fin.ext (by simp only [src]; omega))

/-- What a later point stores of output 0, read from the arguments. -/
theorem stored_q (c : Dev nD) (t : Fin cfg0.N) (h0 : t.val ≠ 0) (z : Fin 1) (r : Fin 2688) (l : Fin 512) :
    qv t (Wc m c) (Nc m c t) (iblk m c 2 t) (iblk m c 3 t) (ix3 z r l) = Spec.rope (n := 2688) (by decide) (Spec.proj (m ((c.tc : Thread nD τ).loc main_arg0)) (m ((c.tc : Thread nD τ).loc main_arg1)) (m ((c.tc : Thread nD τ).loc main_arg3)) (m ((c.tc : Thread nD τ).loc main_arg4)) ⟨t.val - 1, by have := t.isLt; change t.val < 25 at this; omega⟩ l) (Spec.ang freq (m ((c.tc : Thread nD τ).loc main_arg2)) ⟨t.val - 1, by have := t.isLt; change t.val < 25 at this; omega⟩ l) r := by
  refine Eq.trans (congrArg (ropeAt (n := 3456) (by decide) (prodAt t (Wc m c) (Nc m c t) l) (cosv (iblk m c 2 t) (iblk m c 3 t) l) (sinv (iblk m c 2 t) (iblk m c 3 t) l)) (Fin.ext (Nat.zero_add _).symm : (⟨r.val, by omega⟩ : Fin 3456) = ⟨0 + r.val, by omega⟩)) ?_
  refine ropeAt_spec (n := 2688) (b := 0) (by decide) (by decide) (by decide) _ _ _ _ (Spec.ang freq (m ((c.tc : Thread nD τ).loc main_arg2)) ⟨t.val - 1, by have := t.isLt; change t.val < 25 at this; omega⟩ l) (fun r => prod_q m c t h0 l r) (fun j => ?_) (fun j => ?_) r
  · unfold cosv; rw [blk2, blk3]; rfl
  · unfold sinv; rw [blk2, blk3]; rfl

/-- The array of output 0 after the run. -/
def G10 (m : (ℓ : Loc nD τ sig) → Buf (Elt Ideal) ℓ) (c : Dev nD) (i : S24x2688x512.Idx) : EReal := Spec.rope (n := 2688) (by decide) (Spec.proj (m ((c.tc : Thread nD τ).loc main_arg0)) (m ((c.tc : Thread nD τ).loc main_arg1)) (m ((c.tc : Thread nD τ).loc main_arg3)) (m ((c.tc : Thread nD τ).loc main_arg4)) (i 0) (i 2)) (Spec.ang freq (m ((c.tc : Thread nD τ).loc main_arg2)) (i 0) (i 2)) (i 1)

theorem arr10 (c : Dev nD) : (dats m 0 c).arrAt 10 (cfgs 0).N = G10 m c := by
  refine (dats m 0 c).arrAt_eq_of_covers 10 _ (by decide +kernel) fun t hf y => ?_
  blk_simp
  rw [after10]
  obtain ⟨z, r, l, rfl⟩ : ∃ (z : Fin 1) (r : Fin 2688) (l : Fin 512), y = ix3 z r l := ⟨y 0, y 1, y 2, eq_ix3 y⟩
  have h0 := later10 t hf
  refine (stored_q m c t h0 z r l).trans ?_
  have hz : z = 0 := Subsingleton.elim _ _
  subst hz
  refine congrArg (G10 m c) (a₁ := ix3 ⟨t.val - 1, by have := t.isLt; change t.val < 25 at this; omega⟩ r l) ?_
  blk_ext [idx10 t]

/-- Result 0 of the kernel's program at an index. -/
theorem res0_apply (c : Dev nD) (b : Fin 24) (s : Fin 512) (h : Fin 28) (d : Fin 96)  :
    (Pipeline.afterTail₀ cfgs (dats m) 0 (V0 m) [hostOps1] c main_v14 : S24x512x28x96.Idx → EReal) (ix4 b s h d)
      = Spec.rope (n := 2688) (by decide) (Spec.proj (m ((c.tc : Thread nD τ).loc main_arg0)) (m ((c.tc : Thread nD τ).loc main_arg1)) (m ((c.tc : Thread nD τ).loc main_arg3)) (m ((c.tc : Thread nD τ).loc main_arg4)) b s) (Spec.ang freq (m ((c.tc : Thread nD τ).loc main_arg2)) b s) ⟨96 * h.val + d.val, by omega⟩ := by
  unfold Pipeline.afterTail₀
  simp only [hostOps1, List.flatten_cons, List.flatten_nil, List.append_nil]
  after_results_simp
  have e : (Pipeline.withArrays (cfgs 0).spec c (V0 m c) (fun w => (dats m 0 c).arrAt w (cfgs 0).N) (Proc.tc.devRef main_v12_0)) = G10 m c :=
    (Pipeline.withArrays_arr (cfgs 0).spec launch0.win.arr_inj c (V0 m c) (fun w => (dats m 0 c).arrAt w (cfgs 0).N) 10).trans (arr10 m c)
  rw [e]
  pointwise
  show G10 m c _ = _
  unfold G10
  congr 1
  exact Fin.ext (by show h.val * 96 + d.val = 96 * h.val + d.val; omega)

/-- What a later point stores of output 1, read from the arguments. -/
theorem stored_k (c : Dev nD) (t : Fin cfg0.N) (h0 : t.val ≠ 0) (z : Fin 1) (r : Fin 384) (l : Fin 512) :
    kv t (Wc m c) (Nc m c t) (iblk m c 2 t) (iblk m c 3 t) (ix3 z r l) = Spec.rope (n := 384) (by decide) (Spec.proj (m ((c.tc : Thread nD τ).loc main_arg0)) (m ((c.tc : Thread nD τ).loc main_arg1)) (m ((c.tc : Thread nD τ).loc main_arg5)) (m ((c.tc : Thread nD τ).loc main_arg6)) ⟨t.val - 1, by have := t.isLt; change t.val < 25 at this; omega⟩ l) (Spec.ang freq (m ((c.tc : Thread nD τ).loc main_arg2)) ⟨t.val - 1, by have := t.isLt; change t.val < 25 at this; omega⟩ l) r := by
  refine Eq.trans (b := ropeAt (n := 3456) (by decide) (prodAt t (Wc m c) (Nc m c t) l) (cosv (iblk m c 2 t) (iblk m c 3 t) l) (sinv (iblk m c 2 t) (iblk m c 3 t) l) ⟨2688 + r.val, by omega⟩) rfl ?_
  refine ropeAt_spec (n := 384) (b := 2688) (by decide) (by decide) (by decide) _ _ _ _ (Spec.ang freq (m ((c.tc : Thread nD τ).loc main_arg2)) ⟨t.val - 1, by have := t.isLt; change t.val < 25 at this; omega⟩ l) (fun r => prod_k m c t h0 l r) (fun j => ?_) (fun j => ?_) r
  · unfold cosv; rw [blk2, blk3]; rfl
  · unfold sinv; rw [blk2, blk3]; rfl

/-- The array of output 1 after the run. -/
def G11 (m : (ℓ : Loc nD τ sig) → Buf (Elt Ideal) ℓ) (c : Dev nD) (i : S24x384x512.Idx) : EReal := Spec.rope (n := 384) (by decide) (Spec.proj (m ((c.tc : Thread nD τ).loc main_arg0)) (m ((c.tc : Thread nD τ).loc main_arg1)) (m ((c.tc : Thread nD τ).loc main_arg5)) (m ((c.tc : Thread nD τ).loc main_arg6)) (i 0) (i 2)) (Spec.ang freq (m ((c.tc : Thread nD τ).loc main_arg2)) (i 0) (i 2)) (i 1)

theorem arr11 (c : Dev nD) : (dats m 0 c).arrAt 11 (cfgs 0).N = G11 m c := by
  refine (dats m 0 c).arrAt_eq_of_covers 11 _ (by decide +kernel) fun t hf y => ?_
  blk_simp
  rw [after11]
  obtain ⟨z, r, l, rfl⟩ : ∃ (z : Fin 1) (r : Fin 384) (l : Fin 512), y = ix3 z r l := ⟨y 0, y 1, y 2, eq_ix3 y⟩
  have h0 := later11 t hf
  refine (stored_k m c t h0 z r l).trans ?_
  have hz : z = 0 := Subsingleton.elim _ _
  subst hz
  refine congrArg (G11 m c) (a₁ := ix3 ⟨t.val - 1, by have := t.isLt; change t.val < 25 at this; omega⟩ r l) ?_
  blk_ext [idx11 t]

/-- Result 1 of the kernel's program at an index. -/
theorem res1_apply (c : Dev nD) (b : Fin 24) (s : Fin 512) (h : Fin 4) (d : Fin 96)  :
    (Pipeline.afterTail₀ cfgs (dats m) 0 (V0 m) [hostOps1] c main_v16 : S24x512x4x96.Idx → EReal) (ix4 b s h d)
      = Spec.rope (n := 384) (by decide) (Spec.proj (m ((c.tc : Thread nD τ).loc main_arg0)) (m ((c.tc : Thread nD τ).loc main_arg1)) (m ((c.tc : Thread nD τ).loc main_arg5)) (m ((c.tc : Thread nD τ).loc main_arg6)) b s) (Spec.ang freq (m ((c.tc : Thread nD τ).loc main_arg2)) b s) ⟨96 * h.val + d.val, by omega⟩ := by
  unfold Pipeline.afterTail₀
  simp only [hostOps1, List.flatten_cons, List.flatten_nil, List.append_nil]
  after_results_simp
  have e : (Pipeline.withArrays (cfgs 0).spec c (V0 m c) (fun w => (dats m 0 c).arrAt w (cfgs 0).N) (Proc.tc.devRef main_v12_1)) = G11 m c :=
    (Pipeline.withArrays_arr (cfgs 0).spec launch0.win.arr_inj c (V0 m c) (fun w => (dats m 0 c).arrAt w (cfgs 0).N) 11).trans (arr11 m c)
  rw [e]
  pointwise
  show G11 m c _ = _
  unfold G11
  congr 1
  exact Fin.ext (by show h.val * 96 + d.val = 96 * h.val + d.val; omega)

/-- What a later point stores of output 2, read from the arguments. -/
theorem stored_v (c : Dev nD) (t : Fin cfg0.N) (h0 : t.val ≠ 0) (z : Fin 1) (r : Fin 384) (l : Fin 512) :
    vv t (Wc m c) (Nc m c t) (ix3 z r l) = Spec.proj (m ((c.tc : Thread nD τ).loc main_arg0)) (m ((c.tc : Thread nD τ).loc main_arg1)) (m ((c.tc : Thread nD τ).loc main_arg7)) (m ((c.tc : Thread nD τ).loc main_arg8)) ⟨t.val - 1, by have := t.isLt; change t.val < 25 at this; omega⟩ l r := by
  exact weaveAt_spec (n := 384) (b := 3072) (by decide) (by decide) (by decide) _ _ (fun r => prod_v m c t h0 l r) r

/-- The array of output 2 after the run. -/
def G12 (m : (ℓ : Loc nD τ sig) → Buf (Elt Ideal) ℓ) (c : Dev nD) (i : S24x384x512.Idx) : EReal := Spec.proj (m ((c.tc : Thread nD τ).loc main_arg0)) (m ((c.tc : Thread nD τ).loc main_arg1)) (m ((c.tc : Thread nD τ).loc main_arg7)) (m ((c.tc : Thread nD τ).loc main_arg8)) (i 0) (i 2) (i 1)

theorem arr12 (c : Dev nD) : (dats m 0 c).arrAt 12 (cfgs 0).N = G12 m c := by
  refine (dats m 0 c).arrAt_eq_of_covers 12 _ (by decide +kernel) fun t hf y => ?_
  blk_simp
  rw [after12]
  obtain ⟨z, r, l, rfl⟩ : ∃ (z : Fin 1) (r : Fin 384) (l : Fin 512), y = ix3 z r l := ⟨y 0, y 1, y 2, eq_ix3 y⟩
  have h0 := later12 t hf
  refine (stored_v m c t h0 z r l).trans ?_
  have hz : z = 0 := Subsingleton.elim _ _
  subst hz
  refine congrArg (G12 m c) (a₁ := ix3 ⟨t.val - 1, by have := t.isLt; change t.val < 25 at this; omega⟩ r l) ?_
  blk_ext [idx12 t]

/-- Result 2 of the kernel's program at an index. -/
theorem res2_apply (c : Dev nD) (b : Fin 24) (s : Fin 512) (h : Fin 4) (d : Fin 96)  :
    (Pipeline.afterTail₀ cfgs (dats m) 0 (V0 m) [hostOps1] c main_v18 : S24x512x4x96.Idx → EReal) (ix4 b s h d)
      = Spec.proj (m ((c.tc : Thread nD τ).loc main_arg0)) (m ((c.tc : Thread nD τ).loc main_arg1)) (m ((c.tc : Thread nD τ).loc main_arg7)) (m ((c.tc : Thread nD τ).loc main_arg8)) b s ⟨96 * h.val + d.val, by omega⟩ := by
  unfold Pipeline.afterTail₀
  simp only [hostOps1, List.flatten_cons, List.flatten_nil, List.append_nil]
  after_results_simp
  have e : (Pipeline.withArrays (cfgs 0).spec c (V0 m c) (fun w => (dats m 0 c).arrAt w (cfgs 0).N) (Proc.tc.devRef main_v12_2)) = G12 m c :=
    (Pipeline.withArrays_arr (cfgs 0).spec launch0.win.arr_inj c (V0 m c) (fun w => (dats m 0 c).arrAt w (cfgs 0).N) 12).trans (arr12 m c)
  rw [e]
  pointwise
  show G12 m c _ = _
  unfold G12
  congr 1
  exact Fin.ext (by show h.val * 96 + d.val = 96 * h.val + d.val; omega)

end Cert.KernelIdeal.Val

end
-- ==== Proof.RefValue.lean ====
module

public import proofs.«01_k».proof.Proof.Gen.ReferenceIdeal.Run
public import proofs.«01_k».proof.Proof.Spec
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo Idealize.ShloMosaic.Tactic
open Idealize.SL.Sem

/-- The reference's normalized activations, as its program computes them. -/
def rn (X : FVec Ideal S24x512x3584 .bf16) (w : FVec Ideal S3584 .f32) : FVec Ideal S24x512x3584 .bf16 :=
  truncf .bf16 (mulf (mulf (extf .f32 X bitsLt_bf16_f32) (broadcastInDim S24x512x3584 ![0, 1, 2] bcast_S24x512x1_S24x512x3584_0_1_2 (Host.rsqrt (addf (Host.divf (broadcastInDim S24x512x1 ![0, 1] bcast_S24x512_S24x512x1_0_1 (Host.reduceAdd (mulf (extf .f32 X bitsLt_bf16_f32) (extf .f32 X bitsLt_bf16_f32)) (constant S_ .f32 0x00000000#32) reducesTo_S24x512x3584_S24x512_d2 h_S_)) (broadcastInDim S24x512x1 ![] bcast_S_S24x512x1 (constant S_ .f32 0x45600000#32))) (broadcastInDim S24x512x1 ![] bcast_S_S24x512x1 (constant S_ .f32 0x358637BD#32)))))) (broadcastInDim S24x512x3584 ![0, 1, 2] bcast_S1x1x3584_S24x512x3584_0_1_2 (broadcastInDim S1x1x3584 ![2] bcast_S3584_S1x1x3584_2 w))) bitsLt_bf16_f32

/-- The reference's angles: position times frequency. -/
def rang (p : IVec S24x512 32) : FVec Ideal S24x512x48 .f32 :=
  mulf (broadcastInDim S24x512x48 ![0, 1, 2] bcast_S24x512x1_S24x512x48_0_1_2 (broadcastInDim S24x512x1 ![0, 1] bcast_S24x512_S24x512x1_0_1 (sitofp .f32 p))) (broadcastInDim S24x512x48 ![0, 1, 2] bcast_S1x1x48_S24x512x48_0_1_2 (broadcastInDim S1x1x48 ![2] bcast_S48_S1x1x48_2 ((fun i => FloatOps.ofBits .f32 (lit0 (S48.rowMajor i))))))

/-- One half of the channels of the normalized activations. -/
def rhalf0 (n : FVec Ideal S24x512x3584 .bf16) : FVec Ideal S24x512x112x16 .bf16 :=
  shapeCast _ (extractStridedSlice S24x512x112x1x16 ![0, 0, 0, 0, 0] (shapeCast _ n shapeCasts_S24x512x3584_S24x512x112x2x16) slices_S24x512x112x2x16_S24x512x112x1x16_0_0_0_0_0) shapeCasts_S24x512x112x1x16_S24x512x112x16

/-- The other half. -/
def rhalf1 (n : FVec Ideal S24x512x3584 .bf16) : FVec Ideal S24x512x112x16 .bf16 :=
  shapeCast _ (extractStridedSlice S24x512x112x1x16 ![0, 0, 0, 1, 0] (shapeCast _ n shapeCasts_S24x512x3584_S24x512x112x2x16) slices_S24x512x112x2x16_S24x512x112x1x16_0_0_0_1_0) shapeCasts_S24x512x112x1x16_S24x512x112x16

/-- The weights of 2688 rows that the low nibbles hold, as the reference's program computes them. -/
def rw0_2688 (P : IVec S2688x112x16 8) (S : FVec Ideal S2688x112 .bf16) : FVec Ideal S2688x112x16 .bf16 :=
  mulf (subf (sitofp .bf16 (andi (extui 32 P natLt_8_32) (broadcastInDim S2688x112x16 ![] bcast_S_S2688x112x16 (constantI S_ 32 15#32)))) (broadcastInDim S2688x112x16 ![] bcast_S_S2688x112x16 (constant S_ .bf16 0x4100#16))) (broadcastInDim S2688x112x16 ![0, 1, 2] bcast_S2688x112x1_S2688x112x16_0_1_2 (broadcastInDim S2688x112x1 ![0, 1] bcast_S2688x112_S2688x112x1_0_1 S))

/-- The weights of 2688 rows that the high nibbles hold, as the reference's program computes them. -/
def rw1_2688 (P : IVec S2688x112x16 8) (S : FVec Ideal S2688x112 .bf16) : FVec Ideal S2688x112x16 .bf16 :=
  mulf (subf (sitofp .bf16 (Host.shrsi (extui 32 P natLt_8_32) (broadcastInDim S2688x112x16 ![] bcast_S_S2688x112x16 (constantI S_ 32 4#32)))) (broadcastInDim S2688x112x16 ![] bcast_S_S2688x112x16 (constant S_ .bf16 0x4100#16))) (broadcastInDim S2688x112x16 ![0, 1, 2] bcast_S2688x112x1_S2688x112x16_0_1_2 (broadcastInDim S2688x112x1 ![0, 1] bcast_S2688x112_S2688x112x1_0_1 S))

/-- The reference's projection to 2688 rows. -/
def rproj_2688 (n : FVec Ideal S24x512x3584 .bf16) (P : IVec S2688x112x16 8) (S : FVec Ideal S2688x112 .bf16) : FVec Ideal S24x512x2688 .f32 :=
  addf (Host.dotGeneral dot_S24x512x112x16_S2688x112x16_S24x512x2688_23_12_01_0_n_n none (rhalf0 n) (rw0_2688 P S)) (Host.dotGeneral dot_S24x512x112x16_S2688x112x16_S24x512x2688_23_12_01_0_n_n none (rhalf1 n) (rw1_2688 P S))

/-- The reference's rotation of 28 heads, first member of each pair. -/
def rre_2688 (y : FVec Ideal S24x512x2688 .f32) (c s : FVec Ideal S24x512x48 .f32) : FVec Ideal S24x512x28x48x1 .f32 :=
  (broadcastInDim S24x512x28x48x1 ![0, 1, 2, 3] bcast_S24x512x28x48_S24x512x28x48x1_0_1_2_3 (subf (mulf (shapeCast _ (extractStridedSlice S24x512x28x48x1 ![0, 0, 0, 0, 0] (shapeCast _ (shapeCast _ y shapeCasts_S24x512x2688_S24x512x28x96) shapeCasts_S24x512x28x96_S24x512x28x48x2) slices_S24x512x28x48x2_S24x512x28x48x1_0_0_0_0_0) shapeCasts_S24x512x28x48x1_S24x512x28x48) (broadcastInDim S24x512x28x48 ![0, 1, 2, 3] bcast_S24x512x1x48_S24x512x28x48_0_1_2_3 (broadcastInDim S24x512x1x48 ![0, 1, 3] bcast_S24x512x48_S24x512x1x48_0_1_3 c))) (mulf (shapeCast _ (extractStridedSlice S24x512x28x48x1 ![0, 0, 0, 0, 1] (shapeCast _ (shapeCast _ y shapeCasts_S24x512x2688_S24x512x28x96) shapeCasts_S24x512x28x96_S24x512x28x48x2) slices_S24x512x28x48x2_S24x512x28x48x1_0_0_0_0_1) shapeCasts_S24x512x28x48x1_S24x512x28x48) (broadcastInDim S24x512x28x48 ![0, 1, 2, 3] bcast_S24x512x1x48_S24x512x28x48_0_1_2_3 (broadcastInDim S24x512x1x48 ![0, 1, 3] bcast_S24x512x48_S24x512x1x48_0_1_3 s)))))

/-- The reference's rotation of 28 heads, second member of each pair. -/
def rro_2688 (y : FVec Ideal S24x512x2688 .f32) (c s : FVec Ideal S24x512x48 .f32) : FVec Ideal S24x512x28x48x1 .f32 :=
  (broadcastInDim S24x512x28x48x1 ![0, 1, 2, 3] bcast_S24x512x28x48_S24x512x28x48x1_0_1_2_3 (addf (mulf (shapeCast _ (extractStridedSlice S24x512x28x48x1 ![0, 0, 0, 0, 0] (shapeCast _ (shapeCast _ y shapeCasts_S24x512x2688_S24x512x28x96) shapeCasts_S24x512x28x96_S24x512x28x48x2) slices_S24x512x28x48x2_S24x512x28x48x1_0_0_0_0_0) shapeCasts_S24x512x28x48x1_S24x512x28x48) (broadcastInDim S24x512x28x48 ![0, 1, 2, 3] bcast_S24x512x1x48_S24x512x28x48_0_1_2_3 (broadcastInDim S24x512x1x48 ![0, 1, 3] bcast_S24x512x48_S24x512x1x48_0_1_3 s))) (mulf (shapeCast _ (extractStridedSlice S24x512x28x48x1 ![0, 0, 0, 0, 1] (shapeCast _ (shapeCast _ y shapeCasts_S24x512x2688_S24x512x28x96) shapeCasts_S24x512x28x96_S24x512x28x48x2) slices_S24x512x28x48x2_S24x512x28x48x1_0_0_0_0_1) shapeCasts_S24x512x28x48x1_S24x512x28x48) (broadcastInDim S24x512x28x48 ![0, 1, 2, 3] bcast_S24x512x1x48_S24x512x28x48_0_1_2_3 (broadcastInDim S24x512x1x48 ![0, 1, 3] bcast_S24x512x48_S24x512x1x48_0_1_3 c)))))

/-- The reference's rotation of 28 heads. -/
def rrope_2688 (y : FVec Ideal S24x512x2688 .f32) (c s : FVec Ideal S24x512x48 .f32) : FVec Ideal S24x512x28x96 .bf16 :=
  truncf .bf16 (shapeCast _ (concatenate S24x512x28x48x2 4 [⟨S24x512x28x48x1, rre_2688 y c s⟩, ⟨S24x512x28x48x1, rro_2688 y c s⟩] concatenates_S24x512x28x48x1_S24x512x28x48x1_S24x512x28x48x2_d4) shapeCasts_S24x512x28x48x2_S24x512x28x96) bitsLt_bf16_f32

/-- The weights of 384 rows that the low nibbles hold, as the reference's program computes them. -/
def rw0_384 (P : IVec S384x112x16 8) (S : FVec Ideal S384x112 .bf16) : FVec Ideal S384x112x16 .bf16 :=
  mulf (subf (sitofp .bf16 (andi (extui 32 P natLt_8_32) (broadcastInDim S384x112x16 ![] bcast_S_S384x112x16 (constantI S_ 32 15#32)))) (broadcastInDim S384x112x16 ![] bcast_S_S384x112x16 (constant S_ .bf16 0x4100#16))) (broadcastInDim S384x112x16 ![0, 1, 2] bcast_S384x112x1_S384x112x16_0_1_2 (broadcastInDim S384x112x1 ![0, 1] bcast_S384x112_S384x112x1_0_1 S))

/-- The weights of 384 rows that the high nibbles hold, as the reference's program computes them. -/
def rw1_384 (P : IVec S384x112x16 8) (S : FVec Ideal S384x112 .bf16) : FVec Ideal S384x112x16 .bf16 :=
  mulf (subf (sitofp .bf16 (Host.shrsi (extui 32 P natLt_8_32) (broadcastInDim S384x112x16 ![] bcast_S_S384x112x16 (constantI S_ 32 4#32)))) (broadcastInDim S384x112x16 ![] bcast_S_S384x112x16 (constant S_ .bf16 0x4100#16))) (broadcastInDim S384x112x16 ![0, 1, 2] bcast_S384x112x1_S384x112x16_0_1_2 (broadcastInDim S384x112x1 ![0, 1] bcast_S384x112_S384x112x1_0_1 S))

/-- The reference's projection to 384 rows. -/
def rproj_384 (n : FVec Ideal S24x512x3584 .bf16) (P : IVec S384x112x16 8) (S : FVec Ideal S384x112 .bf16) : FVec Ideal S24x512x384 .f32 :=
  addf (Host.dotGeneral dot_S24x512x112x16_S384x112x16_S24x512x384_23_12_01_0_n_n none (rhalf0 n) (rw0_384 P S)) (Host.dotGeneral dot_S24x512x112x16_S384x112x16_S24x512x384_23_12_01_0_n_n none (rhalf1 n) (rw1_384 P S))

/-- The reference's rotation of 4 heads, first member of each pair. -/
def rre_384 (y : FVec Ideal S24x512x384 .f32) (c s : FVec Ideal S24x512x48 .f32) : FVec Ideal S24x512x4x48x1 .f32 :=
  (broadcastInDim S24x512x4x48x1 ![0, 1, 2, 3] bcast_S24x512x4x48_S24x512x4x48x1_0_1_2_3 (subf (mulf (shapeCast _ (extractStridedSlice S24x512x4x48x1 ![0, 0, 0, 0, 0] (shapeCast _ (shapeCast _ y shapeCasts_S24x512x384_S24x512x4x96) shapeCasts_S24x512x4x96_S24x512x4x48x2) slices_S24x512x4x48x2_S24x512x4x48x1_0_0_0_0_0) shapeCasts_S24x512x4x48x1_S24x512x4x48) (broadcastInDim S24x512x4x48 ![0, 1, 2, 3] bcast_S24x512x1x48_S24x512x4x48_0_1_2_3 (broadcastInDim S24x512x1x48 ![0, 1, 3] bcast_S24x512x48_S24x512x1x48_0_1_3 c))) (mulf (shapeCast _ (extractStridedSlice S24x512x4x48x1 ![0, 0, 0, 0, 1] (shapeCast _ (shapeCast _ y shapeCasts_S24x512x384_S24x512x4x96) shapeCasts_S24x512x4x96_S24x512x4x48x2) slices_S24x512x4x48x2_S24x512x4x48x1_0_0_0_0_1) shapeCasts_S24x512x4x48x1_S24x512x4x48) (broadcastInDim S24x512x4x48 ![0, 1, 2, 3] bcast_S24x512x1x48_S24x512x4x48_0_1_2_3 (broadcastInDim S24x512x1x48 ![0, 1, 3] bcast_S24x512x48_S24x512x1x48_0_1_3 s)))))

/-- The reference's rotation of 4 heads, second member of each pair. -/
def rro_384 (y : FVec Ideal S24x512x384 .f32) (c s : FVec Ideal S24x512x48 .f32) : FVec Ideal S24x512x4x48x1 .f32 :=
  (broadcastInDim S24x512x4x48x1 ![0, 1, 2, 3] bcast_S24x512x4x48_S24x512x4x48x1_0_1_2_3 (addf (mulf (shapeCast _ (extractStridedSlice S24x512x4x48x1 ![0, 0, 0, 0, 0] (shapeCast _ (shapeCast _ y shapeCasts_S24x512x384_S24x512x4x96) shapeCasts_S24x512x4x96_S24x512x4x48x2) slices_S24x512x4x48x2_S24x512x4x48x1_0_0_0_0_0) shapeCasts_S24x512x4x48x1_S24x512x4x48) (broadcastInDim S24x512x4x48 ![0, 1, 2, 3] bcast_S24x512x1x48_S24x512x4x48_0_1_2_3 (broadcastInDim S24x512x1x48 ![0, 1, 3] bcast_S24x512x48_S24x512x1x48_0_1_3 s))) (mulf (shapeCast _ (extractStridedSlice S24x512x4x48x1 ![0, 0, 0, 0, 1] (shapeCast _ (shapeCast _ y shapeCasts_S24x512x384_S24x512x4x96) shapeCasts_S24x512x4x96_S24x512x4x48x2) slices_S24x512x4x48x2_S24x512x4x48x1_0_0_0_0_1) shapeCasts_S24x512x4x48x1_S24x512x4x48) (broadcastInDim S24x512x4x48 ![0, 1, 2, 3] bcast_S24x512x1x48_S24x512x4x48_0_1_2_3 (broadcastInDim S24x512x1x48 ![0, 1, 3] bcast_S24x512x48_S24x512x1x48_0_1_3 c)))))

/-- The reference's rotation of 4 heads. -/
def rrope_384 (y : FVec Ideal S24x512x384 .f32) (c s : FVec Ideal S24x512x48 .f32) : FVec Ideal S24x512x4x96 .bf16 :=
  truncf .bf16 (shapeCast _ (concatenate S24x512x4x48x2 4 [⟨S24x512x4x48x1, rre_384 y c s⟩, ⟨S24x512x4x48x1, rro_384 y c s⟩] concatenates_S24x512x4x48x1_S24x512x4x48x1_S24x512x4x48x2_d4) shapeCasts_S24x512x4x48x2_S24x512x4x96) bitsLt_bf16_f32

/-- The frequencies' bit patterns. -/
def freq (j : Fin 48) : BitVec 32 := lit0 (S48.rowMajor (ix1 j))

/-- The normalized activations at an index. -/
theorem rn_apply (X : FVec Ideal S24x512x3584 .bf16) (w : FVec Ideal S3584 .f32) (b : Fin 24) (s : Fin 512) (k : Fin 3584) :
    rn X w (ix3 b s k) = Spec.xn X w b s k := by
  pointwise [rn]
  rw [Spec.div_width, Spec.xn]

/-- The cosine of an angle at an index. -/
theorem cos_apply (p : IVec S24x512 32) (b : Fin 24) (s : Fin 512) (j : Fin 48) : Host.cos (rang p) (ix3 b s j) = Ideal.cos (Spec.ang freq p b s j) := by
  pointwise [rang]
  rfl

/-- The sine of an angle at an index. -/
theorem sin_apply (p : IVec S24x512 32) (b : Fin 24) (s : Fin 512) (j : Fin 48) : Host.sin (rang p) (ix3 b s j) = Ideal.sin (Spec.ang freq p b s j) := by
  pointwise [rang]
  rfl

/-- One half of the channels at an index. -/
theorem rhalf0_apply (n : FVec Ideal S24x512x3584 .bf16) (b : Fin 24) (s : Fin 512) (g : Fin 112) (j : Fin 16) :
    rhalf0 n (ix4 b s g j) = n (ix3 b s ⟨g.val * 32 + j.val, by omega⟩) := by
  pointwise [rhalf0]

/-- The other half at an index. -/
theorem rhalf1_apply (n : FVec Ideal S24x512x3584 .bf16) (b : Fin 24) (s : Fin 512) (g : Fin 112) (j : Fin 16) :
    rhalf1 n (ix4 b s g j) = n (ix3 b s ⟨g.val * 32 + 16 + j.val, by omega⟩) := by
  pointwise [rhalf1]

/-- A weight of a low nibble at an index. -/
theorem rw0_2688_apply (P : IVec S2688x112x16 8) (S : FVec Ideal S2688x112 .bf16) (o : Fin 2688) (g : Fin 112) (j : Fin 16) :
    rw0_2688 P S (ix3 o g j) = Spec.nib (P (ix3 o g j)) 0 * S (ix2 o g) := by
  pointwise [rw0_2688]
  rw [Spec.nib_lo]

/-- A weight of a high nibble at an index. -/
theorem rw1_2688_apply (P : IVec S2688x112x16 8) (S : FVec Ideal S2688x112 .bf16) (o : Fin 2688) (g : Fin 112) (j : Fin 16) :
    rw1_2688 P S (ix3 o g j) = Spec.nib (P (ix3 o g j)) 1 * S (ix2 o g) := by
  pointwise [rw1_2688]
  rw [Spec.nib_hi]

/-- The projection at an index. -/
theorem rproj_2688_apply (X : FVec Ideal S24x512x3584 .bf16) (w : FVec Ideal S3584 .f32) (P : IVec S2688x112x16 8) (S : FVec Ideal S2688x112 .bf16) (b : Fin 24) (s : Fin 512) (o : Fin 2688) :
    rproj_2688 (rn X w) P S (ix3 b s o) = Spec.proj X w P S b s o := by
  pointwise [rproj_2688]
  rw [Spec.proj, Spec.sum_halves]
  refine congrArg₂ (· + ·) (Finset.sum_congr rfl fun g _ => Finset.sum_congr rfl fun j _ => ?_) (Finset.sum_congr rfl fun g _ => Finset.sum_congr rfl fun j _ => ?_)
  · rw [rhalf0_apply, rw0_2688_apply, rn_apply, mul_comm]
    refine congrArg (· * _) ?_
    have e0 : (g.val * 32 + j.val) / 32 = g.val := by omega
    have e1 : (g.val * 32 + j.val) % 16 = j.val := by omega
    have e2 : (g.val * 32 + j.val) % 32 / 16 = 0 := by omega
    simp only [Spec.wt, e0, e1, e2, Fin.eta]
  · rw [rhalf1_apply, rw1_2688_apply, rn_apply, mul_comm]
    refine congrArg (· * _) ?_
    have e0 : (g.val * 32 + 16 + j.val) / 32 = g.val := by omega
    have e1 : (g.val * 32 + 16 + j.val) % 16 = j.val := by omega
    have e2 : (g.val * 32 + 16 + j.val) % 32 / 16 = 1 := by omega
    simp only [Spec.wt, e0, e1, e2, Fin.eta]

/-- The rotation at an index, first members. -/
theorem rre_2688_apply (y : FVec Ideal S24x512x2688 .f32) (c s : FVec Ideal S24x512x48 .f32) (b : Fin 24) (l : Fin 512) (h : Fin 28) (d : Fin 48) :
    rre_2688 y c s (ix5 b l h d 0) = y (ix3 b l ⟨h.val * 96 + d.val * 2, by omega⟩) * c (ix3 b l d) - y (ix3 b l ⟨h.val * 96 + d.val * 2 + 1, by omega⟩) * s (ix3 b l d) := by
  pointwise [rre_2688]

/-- The rotation at an index, second members. -/
theorem rro_2688_apply (y : FVec Ideal S24x512x2688 .f32) (c s : FVec Ideal S24x512x48 .f32) (b : Fin 24) (l : Fin 512) (h : Fin 28) (d : Fin 48) :
    rro_2688 y c s (ix5 b l h d 0) = y (ix3 b l ⟨h.val * 96 + d.val * 2, by omega⟩) * s (ix3 b l d) + y (ix3 b l ⟨h.val * 96 + d.val * 2 + 1, by omega⟩) * c (ix3 b l d) := by
  pointwise [rro_2688]

/-- The rotated heads at an index. -/
theorem rrope_2688_apply (y : FVec Ideal S24x512x2688 .f32) (p : IVec S24x512 32) (b : Fin 24) (l : Fin 512) (h : Fin 28) (d : Fin 96) :
    rrope_2688 y (Host.cos (rang p)) (Host.sin (rang p)) (ix4 b l h d)
      = Spec.rope (n := 2688) (by decide) (fun o => y (ix3 b l o)) (Spec.ang freq p b l) ⟨96 * h.val + d.val, by omega⟩ := by
  pointwise [rrope_2688]
  have e0 : (96 * h.val + d.val) % 2 = d.val % 2 := by omega
  have e1 : (96 * h.val + d.val) % 96 / 2 = d.val / 2 := by omega
  have e2 : 96 * h.val + d.val - d.val % 2 = h.val * 96 + d.val / 2 * 2 := by omega
  have hz : d.val % 2 < 2 := by omega
  rw [Spec.rope]
  simp only [e0, e1, e2]
  rcases (by omega : d.val % 2 = 0 ∨ d.val % 2 = 1) with hd | hd
  · have hl : d.val % 2 < 1 := by omega
    refine (dif_pos hl).trans (Eq.trans ?_ (if_pos hd).symm)
    refine (congrArg (fun z => rre_2688 y _ _ (ix5 b l h _ z)) (Subsingleton.elim _ (0 : Fin 1))).trans ?_
    rw [rre_2688_apply, cos_apply, sin_apply]
  · have hl : ¬ d.val % 2 < 1 := by omega
    have hz' : ¬ d.val % 2 = 0 := by omega
    refine (dif_neg hl).trans (Eq.trans ?_ (if_neg hz').symm)
    refine (congrArg (fun z => rro_2688 y _ _ (ix5 b l h _ z)) (Subsingleton.elim _ (0 : Fin 1))).trans ?_
    rw [rro_2688_apply, cos_apply, sin_apply]

/-- A weight of a low nibble at an index. -/
theorem rw0_384_apply (P : IVec S384x112x16 8) (S : FVec Ideal S384x112 .bf16) (o : Fin 384) (g : Fin 112) (j : Fin 16) :
    rw0_384 P S (ix3 o g j) = Spec.nib (P (ix3 o g j)) 0 * S (ix2 o g) := by
  pointwise [rw0_384]
  rw [Spec.nib_lo]

/-- A weight of a high nibble at an index. -/
theorem rw1_384_apply (P : IVec S384x112x16 8) (S : FVec Ideal S384x112 .bf16) (o : Fin 384) (g : Fin 112) (j : Fin 16) :
    rw1_384 P S (ix3 o g j) = Spec.nib (P (ix3 o g j)) 1 * S (ix2 o g) := by
  pointwise [rw1_384]
  rw [Spec.nib_hi]

/-- The projection at an index. -/
theorem rproj_384_apply (X : FVec Ideal S24x512x3584 .bf16) (w : FVec Ideal S3584 .f32) (P : IVec S384x112x16 8) (S : FVec Ideal S384x112 .bf16) (b : Fin 24) (s : Fin 512) (o : Fin 384) :
    rproj_384 (rn X w) P S (ix3 b s o) = Spec.proj X w P S b s o := by
  pointwise [rproj_384]
  rw [Spec.proj, Spec.sum_halves]
  refine congrArg₂ (· + ·) (Finset.sum_congr rfl fun g _ => Finset.sum_congr rfl fun j _ => ?_) (Finset.sum_congr rfl fun g _ => Finset.sum_congr rfl fun j _ => ?_)
  · rw [rhalf0_apply, rw0_384_apply, rn_apply, mul_comm]
    refine congrArg (· * _) ?_
    have e0 : (g.val * 32 + j.val) / 32 = g.val := by omega
    have e1 : (g.val * 32 + j.val) % 16 = j.val := by omega
    have e2 : (g.val * 32 + j.val) % 32 / 16 = 0 := by omega
    simp only [Spec.wt, e0, e1, e2, Fin.eta]
  · rw [rhalf1_apply, rw1_384_apply, rn_apply, mul_comm]
    refine congrArg (· * _) ?_
    have e0 : (g.val * 32 + 16 + j.val) / 32 = g.val := by omega
    have e1 : (g.val * 32 + 16 + j.val) % 16 = j.val := by omega
    have e2 : (g.val * 32 + 16 + j.val) % 32 / 16 = 1 := by omega
    simp only [Spec.wt, e0, e1, e2, Fin.eta]

/-- The rotation at an index, first members. -/
theorem rre_384_apply (y : FVec Ideal S24x512x384 .f32) (c s : FVec Ideal S24x512x48 .f32) (b : Fin 24) (l : Fin 512) (h : Fin 4) (d : Fin 48) :
    rre_384 y c s (ix5 b l h d 0) = y (ix3 b l ⟨h.val * 96 + d.val * 2, by omega⟩) * c (ix3 b l d) - y (ix3 b l ⟨h.val * 96 + d.val * 2 + 1, by omega⟩) * s (ix3 b l d) := by
  pointwise [rre_384]

/-- The rotation at an index, second members. -/
theorem rro_384_apply (y : FVec Ideal S24x512x384 .f32) (c s : FVec Ideal S24x512x48 .f32) (b : Fin 24) (l : Fin 512) (h : Fin 4) (d : Fin 48) :
    rro_384 y c s (ix5 b l h d 0) = y (ix3 b l ⟨h.val * 96 + d.val * 2, by omega⟩) * s (ix3 b l d) + y (ix3 b l ⟨h.val * 96 + d.val * 2 + 1, by omega⟩) * c (ix3 b l d) := by
  pointwise [rro_384]

/-- The rotated heads at an index. -/
theorem rrope_384_apply (y : FVec Ideal S24x512x384 .f32) (p : IVec S24x512 32) (b : Fin 24) (l : Fin 512) (h : Fin 4) (d : Fin 96) :
    rrope_384 y (Host.cos (rang p)) (Host.sin (rang p)) (ix4 b l h d)
      = Spec.rope (n := 384) (by decide) (fun o => y (ix3 b l o)) (Spec.ang freq p b l) ⟨96 * h.val + d.val, by omega⟩ := by
  pointwise [rrope_384]
  have e0 : (96 * h.val + d.val) % 2 = d.val % 2 := by omega
  have e1 : (96 * h.val + d.val) % 96 / 2 = d.val / 2 := by omega
  have e2 : 96 * h.val + d.val - d.val % 2 = h.val * 96 + d.val / 2 * 2 := by omega
  have hz : d.val % 2 < 2 := by omega
  rw [Spec.rope]
  simp only [e0, e1, e2]
  rcases (by omega : d.val % 2 = 0 ∨ d.val % 2 = 1) with hd | hd
  · have hl : d.val % 2 < 1 := by omega
    refine (dif_pos hl).trans (Eq.trans ?_ (if_pos hd).symm)
    refine (congrArg (fun z => rre_384 y _ _ (ix5 b l h _ z)) (Subsingleton.elim _ (0 : Fin 1))).trans ?_
    rw [rre_384_apply, cos_apply, sin_apply]
  · have hl : ¬ d.val % 2 < 1 := by omega
    have hz' : ¬ d.val % 2 = 0 := by omega
    refine (dif_neg hl).trans (Eq.trans ?_ (if_neg hz').symm)
    refine (congrArg (fun z => rro_384 y _ _ (ix5 b l h _ z)) (Subsingleton.elim _ (0 : Fin 1))).trans ?_
    rw [rro_384_apply, cos_apply, sin_apply]

/-- Result 0 of the reference at an index. -/
theorem res0_apply (m : (ℓ : Loc nD τ sig) → Buf (Elt Ideal) ℓ) (c : Dev nD) (b : Fin 24) (l : Fin 512) (h : Fin 28) (d : Fin 96) :
    res_main_v117 m c (ix4 b l h d) = Spec.rope (n := 2688) (by decide) (Spec.proj (m ((c.tc : Thread nD τ).loc main_arg0)) (m ((c.tc : Thread nD τ).loc main_arg1)) (m ((c.tc : Thread nD τ).loc main_arg3)) (m ((c.tc : Thread nD τ).loc main_arg4)) b l) (Spec.ang freq (m ((c.tc : Thread nD τ).loc main_arg2)) b l) ⟨96 * h.val + d.val, by omega⟩ := by
  have e : res_main_v117 m c = rrope_2688 (rproj_2688 (rn (m ((c.tc : Thread nD τ).loc main_arg0)) (m ((c.tc : Thread nD τ).loc main_arg1))) (m ((c.tc : Thread nD τ).loc main_arg3)) (m ((c.tc : Thread nD τ).loc main_arg4))) (Host.cos (rang (m ((c.tc : Thread nD τ).loc main_arg2)))) (Host.sin (rang (m ((c.tc : Thread nD τ).loc main_arg2)))) := rfl
  rw [e, rrope_2688_apply]
  simp only [rproj_2688_apply]

/-- Result 1 of the reference at an index. -/
theorem res1_apply (m : (ℓ : Loc nD τ sig) → Buf (Elt Ideal) ℓ) (c : Dev nD) (b : Fin 24) (l : Fin 512) (h : Fin 4) (d : Fin 96) :
    res_main_v137 m c (ix4 b l h d) = Spec.rope (n := 384) (by decide) (Spec.proj (m ((c.tc : Thread nD τ).loc main_arg0)) (m ((c.tc : Thread nD τ).loc main_arg1)) (m ((c.tc : Thread nD τ).loc main_arg5)) (m ((c.tc : Thread nD τ).loc main_arg6)) b l) (Spec.ang freq (m ((c.tc : Thread nD τ).loc main_arg2)) b l) ⟨96 * h.val + d.val, by omega⟩ := by
  have e : res_main_v137 m c = rrope_384 (rproj_384 (rn (m ((c.tc : Thread nD τ).loc main_arg0)) (m ((c.tc : Thread nD τ).loc main_arg1))) (m ((c.tc : Thread nD τ).loc main_arg5)) (m ((c.tc : Thread nD τ).loc main_arg6))) (Host.cos (rang (m ((c.tc : Thread nD τ).loc main_arg2)))) (Host.sin (rang (m ((c.tc : Thread nD τ).loc main_arg2)))) := rfl
  rw [e, rrope_384_apply]
  simp only [rproj_384_apply]

/-- The third result's vector: the last projection in heads. -/
def rv (X : FVec Ideal S24x512x3584 .bf16) (w : FVec Ideal S3584 .f32) (P : IVec S384x112x16 8) (S : FVec Ideal S384x112 .bf16) : FVec Ideal S24x512x4x96 .bf16 :=
  truncf .bf16 (shapeCast _ (rproj_384 (rn X w) P S) shapeCasts_S24x512x384_S24x512x4x96) bitsLt_bf16_f32

/-- Result 2 of the reference at an index. -/
theorem rv_apply (X : FVec Ideal S24x512x3584 .bf16) (w : FVec Ideal S3584 .f32) (P : IVec S384x112x16 8) (S : FVec Ideal S384x112 .bf16) (b : Fin 24) (l : Fin 512) (h : Fin 4) (d : Fin 96) :
    rv X w P S (ix4 b l h d) = Spec.proj X w P S b l ⟨96 * h.val + d.val, by omega⟩ := by
  pointwise [rv]
  rw [rproj_384_apply]
  exact congrArg (Spec.proj X w P S b l) (Fin.ext (by simp only; omega))

/-- The reference's run: its results by the names above, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = res_main_v117 m c
      ∧ r.2.mem ((c.tc : Thread nD τ).loc main_v137) = res_main_v137 m c
      ∧ r.2.mem ((c.tc : Thread nD τ).loc main_v138) = rv (m ((c.tc : Thread nD τ).loc main_arg0)) (m ((c.tc : Thread nD τ).loc main_arg1)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run m ρ

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Result
public import proofs.«01_k».proof.Proof.RefValue
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The rewrites of the idealization, each at the shapes it is applied at. -/
theorem preserves : Cert.preserves_Kernel_KernelIdeal :=
  ⟨IdealRules.bf16_pair.statement Cert.KernelIdeal.S128x256 Cert.KernelIdeal.S64x256,
    IdealRules.named_const.statement Cert.KernelIdeal.κ "inv_d" _ _ _ rfl,
    IdealRules.bf16_pair.packStatement Cert.KernelIdeal.S8x512,
    IdealRules.bf16_pair.statement Cert.KernelIdeal.S16x512 Cert.KernelIdeal.S8x512⟩

/-- The reference's frame: it runs without a fault and leaves its arguments as they were. It has no semaphore, so the part
about the counters holds of itself. -/
theorem frame_reference : Cert.quiescent_ReferenceIdeal (hReferenceIdeal := Cert.ReferenceIdeal.Gen.facts) := fun m ρ _ => by
  refine (θ_run _ _ _).mono (fun r h => ⟨fun c => (h c).2.2.2, funext fun s => ?_⟩) (Cert.ReferenceIdeal.Val.run_named m ρ)
  rcases s with ⟨_, b | b⟩
  · exact absurd b.isLt (Nat.not_lt_zero _)
  · exact absurd b.isLt (Nat.not_lt_zero _)

/-- Both programs hold one table of frequencies. -/
theorem freq_eq : Cert.ReferenceIdeal.Val.freq = Cert.KernelIdeal.Val.freq := rfl

section Equal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include h

/-- The queries of the two programs are equal. -/
theorem equal0 : (Cert.ReferenceIdeal.Value.res_main_v117 m' c : Cert.KernelIdeal.S24x512x28x96.Idx → EReal)
    = Pipeline.afterTail₀ Cert.KernelIdeal.cfgs (Cert.KernelIdeal.Val.dats m) 0 (Cert.KernelIdeal.Gen.V0 m) [Cert.KernelIdeal.Gen.hostOps1] c Cert.KernelIdeal.main_v14 := by
  obtain ⟨h0, h1, h2, h3, h4, h5, h6, h7, h8⟩ := h
  funext y
  obtain ⟨b, l, hd, d, rfl⟩ : ∃ (b : Fin 24) (l : Fin 512) (hd : Fin 28) (d : Fin 96), y = ix4 b l hd d := ⟨y 0, y 1, y 2, y 3, eq_ix4 y⟩
  refine (Cert.ReferenceIdeal.Val.res0_apply m' c b l hd d).trans (Eq.trans ?_ (Cert.KernelIdeal.Val.res0_apply m c b l hd d).symm)
  rw [h0, h1, h2, h3, h4, freq_eq]

/-- The keys of the two programs are equal. -/
theorem equal1 : (Cert.ReferenceIdeal.Value.res_main_v137 m' c : Cert.KernelIdeal.S24x512x4x96.Idx → EReal)
    = Pipeline.afterTail₀ Cert.KernelIdeal.cfgs (Cert.KernelIdeal.Val.dats m) 0 (Cert.KernelIdeal.Gen.V0 m) [Cert.KernelIdeal.Gen.hostOps1] c Cert.KernelIdeal.main_v16 := by
  obtain ⟨h0, h1, h2, h3, h4, h5, h6, h7, h8⟩ := h
  funext y
  obtain ⟨b, l, hd, d, rfl⟩ : ∃ (b : Fin 24) (l : Fin 512) (hd : Fin 4) (d : Fin 96), y = ix4 b l hd d := ⟨y 0, y 1, y 2, y 3, eq_ix4 y⟩
  refine (Cert.ReferenceIdeal.Val.res1_apply m' c b l hd d).trans (Eq.trans ?_ (Cert.KernelIdeal.Val.res1_apply m c b l hd d).symm)
  rw [h0, h1, h2, h5, h6, freq_eq]

/-- The values of the two programs are equal. -/
theorem equal2 : (Cert.ReferenceIdeal.Val.rv (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) : Cert.KernelIdeal.S24x512x4x96.Idx → EReal)
    = Pipeline.afterTail₀ Cert.KernelIdeal.cfgs (Cert.KernelIdeal.Val.dats m) 0 (Cert.KernelIdeal.Gen.V0 m) [Cert.KernelIdeal.Gen.hostOps1] c Cert.KernelIdeal.main_v18 := by
  obtain ⟨h0, h1, h2, h3, h4, h5, h6, h7, h8⟩ := h
  funext y
  obtain ⟨b, l, hd, d, rfl⟩ : ∃ (b : Fin 24) (l : Fin 512) (hd : Fin 4) (d : Fin 96), y = ix4 b l hd d := ⟨y 0, y 1, y 2, y 3, eq_ix4 y⟩
  refine (Cert.ReferenceIdeal.Val.rv_apply _ _ _ _ b l hd d).trans (Eq.trans ?_ (Cert.KernelIdeal.Val.res2_apply m c b l hd d).symm)
  rw [h0, h1, h7, h8]

end Equal

/-- The idealized kernel and the reference, from equal arguments, end with equal results. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨fun c => Pipeline.afterTail₀ Cert.KernelIdeal.cfgs (Cert.KernelIdeal.Val.dats m) 0 (Cert.KernelIdeal.Gen.V0 m) [Cert.KernelIdeal.Gen.hostOps1] c Cert.KernelIdeal.main_v14,
    fun c => Pipeline.afterTail₀ Cert.KernelIdeal.cfgs (Cert.KernelIdeal.Val.dats m) 0 (Cert.KernelIdeal.Gen.V0 m) [Cert.KernelIdeal.Gen.hostOps1] c Cert.KernelIdeal.main_v16,
    fun c => Pipeline.afterTail₀ Cert.KernelIdeal.cfgs (Cert.KernelIdeal.Val.dats m) 0 (Cert.KernelIdeal.Gen.V0 m) [Cert.KernelIdeal.Gen.hostOps1] c Cert.KernelIdeal.main_v18, ?_, ?_⟩
  · exact θ_run_mono (θ_run_and (Cert.KernelIdeal.Val.run_main m ρ) (Cert.KernelIdeal.FrameProof.frame m ρ)) fun r h c =>
      ⟨(h.1 c).2 Cert.KernelIdeal.main_v14 (Pipeline.mem_restRefs_of _ (by decide) (by decide)),
        (h.1 c).2 Cert.KernelIdeal.main_v16 (Pipeline.mem_restRefs_of _ (by decide) (by decide)),
        (h.1 c).2 Cert.KernelIdeal.main_v18 (Pipeline.mem_restRefs_of _ (by decide) (by decide)), h.2.1 c⟩
  · exact θ_run_mono (Cert.ReferenceIdeal.Val.run_named m' ρ') fun r h c =>
      ⟨(h c).1.trans (equal0 m m' c (hag c)), (h c).2.1.trans (equal1 m m' c (hag c)), (h c).2.2.1.trans (equal2 m m' c (hag c)), (h c).2.2.2⟩

/-- Everything the certificate claims. -/
theorem claim : Cert.Claim := ⟨Cert.Kernel.Gen.facts, Cert.KernelIdeal.Gen.facts, Cert.ReferenceIdeal.Gen.facts,
  fun m ρ _ => Cert.Kernel.FrameProof.frame m ρ,
  fun m ρ _ => Cert.KernelIdeal.FrameProof.frame m ρ,
  frame_reference, preserves, algebraic⟩

end Cert.Proof

end
